-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel) (hPre_labels_in_range := hPre_labels_in_range)
    ∧ quiescent_KernelIdeal (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal (hKernelIdeal := hKernelIdeal) (hReferenceIdeal := hReferenceIdeal) (hPre_labels_in_range := hPre_labels_in_range)
-- ==== Pre_labels_in_range.lean ====
abbrev S32x32x224x224 : Shape := ⟨4, ![32, 32, 224, 224]⟩
abbrev S32x224x224 : Shape := ⟨3, ![32, 224, 224]⟩
abbrev S_ : Shape := ⟨0, ![]⟩

class Facts : Prop where
  bcast_S_S32x224x224 : S_.BroadcastsInDim S32x224x224 (![] : Fin 0 → Fin S32x224x224.rank)
  reducesTo_S32x224x224_S_d0_1_2 : S32x224x224.ReducesTo [0, 1, 2] S_
  h_S_ : 0 < S_.numel

variable [Facts]

def fn {F : FTy → Type} [FloatOps F] (main_arg0 : FVec F S32x32x224x224 .f32) (main_arg1 : FVec F S32x32x224x224 .f32) (main_arg2 : IVec S32x224x224 32) (main_arg3 : IVec S32x224x224 32) : IVec S_ 1 :=
  let main_c : IVec S_ 32 := constantI S_ 32 0#32
  let main_v0 : IVec S32x224x224 32 := broadcastInDim S32x224x224 ![] bcast_S_S32x224x224 main_c
  let main_v1 : IVec S32x224x224 1 := cmpi .sge main_arg2 main_v0
  let main_c_0 : IVec S_ 32 := constantI S_ 32 19#32
  let main_v2 : IVec S32x224x224 32 := broadcastInDim S32x224x224 ![] bcast_S_S32x224x224 main_c_0
  let main_v3 : IVec S32x224x224 1 := cmpi .slt main_arg2 main_v2
  let main_v4 : IVec S32x224x224 1 := andi main_v1 main_v3
  let main_c_1 : IVec S_ 1 := constantI S_ 1 1#1
  let main_v5 : IVec S_ 1 := (fun x v => Host.reduce IntOp.andi x v reducesTo_S32x224x224_S_d0_1_2 h_S_) main_v4 main_c_1
  let main_c_2 : IVec S_ 32 := constantI S_ 32 0#32
  let main_v6 : IVec S32x224x224 32 := broadcastInDim S32x224x224 ![] bcast_S_S32x224x224 main_c_2
  let main_v7 : IVec S32x224x224 1 := cmpi .sge main_arg3 main_v6
  let main_c_3 : IVec S_ 32 := constantI S_ 32 19#32
  let main_v8 : IVec S32x224x224 32 := broadcastInDim S32x224x224 ![] bcast_S_S32x224x224 main_c_3
  let main_v9 : IVec S32x224x224 1 := cmpi .slt main_arg3 main_v8
  let main_v10 : IVec S32x224x224 1 := andi main_v7 main_v9
  let main_c_4 : IVec S_ 1 := constantI S_ 1 1#1
  let main_v11 : IVec S_ 1 := (fun x v => Host.reduce IntOp.andi x v reducesTo_S32x224x224_S_d0_1_2 h_S_) main_v10 main_c_4
  let main_v12 : IVec S_ 1 := andi main_v5 main_v11
  main_v12
-- ==== Kernel.lean ====
abbrev S32x32x224x224 : Shape := ⟨4, ![32, 32, 224, 224]⟩
abbrev S32x224x224 : Shape := ⟨3, ![32, 224, 224]⟩
abbrev S51380224 : Shape := ⟨1, ![51380224]⟩
abbrev S1605632 : Shape := ⟨1, ![1605632]⟩
abbrev S32x1280 : Shape := ⟨2, ![32, 1280]⟩
abbrev S50176 : Shape := ⟨1, ![50176]⟩
abbrev S1280 : Shape := ⟨1, ![1280]⟩
abbrev S16 : Shape := ⟨1, ![16]⟩
abbrev S_ : Shape := ⟨0, ![]⟩
abbrev S1x1280 : Shape := ⟨2, ![1, 1280]⟩
abbrev S1x1 : Shape := ⟨2, ![1, 1]⟩
abbrev S1x640 : Shape := ⟨2, ![1, 640]⟩
abbrev S1x1x640 : Shape := ⟨3, ![1, 1, 640]⟩
abbrev S1 : Shape := ⟨1, ![1]⟩
abbrev S1x1x1 : Shape := ⟨3, ![1, 1, 1]⟩

abbrev nBuf : Table → Nat
  | .hbm => 12
  | .local .tc .vmem => 2
  | .local .tc .smem => 1
  | .local .scVector .vmem => 4
  | _ => 0

abbrev bufTy : (tb : Table) → Fin (nBuf tb) → BufTy
  | .hbm, ⟨0, _⟩ => ⟨S32x32x224x224, .f32⟩
  | .hbm, ⟨1, _⟩ => ⟨S32x32x224x224, .f32⟩
  | .hbm, ⟨2, _⟩ => ⟨S32x224x224, .i32⟩
  | .hbm, ⟨3, _⟩ => ⟨S32x224x224, .i32⟩
  | .hbm, ⟨4, _⟩ => ⟨S51380224, .f32⟩
  | .hbm, ⟨5, _⟩ => ⟨S51380224, .f32⟩
  | .hbm, ⟨6, _⟩ => ⟨S1605632, .i32⟩
  | .hbm, ⟨7, _⟩ => ⟨S1605632, .i32⟩
  | .hbm, ⟨8, _⟩ => ⟨S32x1280, .f32⟩
  | .hbm, ⟨9, _⟩ => ⟨S32x1280, .f32⟩
  | .hbm, ⟨10, _⟩ => ⟨S1x1, .f32⟩
  | .hbm, ⟨11, _⟩ => ⟨S_, .f32⟩
  | .local .tc .vmem, ⟨0, _⟩ => ⟨S32x1280, .f32⟩
  | .local .tc .vmem, ⟨1, _⟩ => ⟨S32x1280, .f32⟩
  | .local .tc .smem, ⟨0, _⟩ => ⟨S1x1, .f32⟩
  | .local .scVector .vmem, ⟨0, _⟩ => ⟨S50176, .i32⟩
  | .local .scVector .vmem, ⟨1, _⟩ => ⟨S50176, .f32⟩
  | .local .scVector .vmem, ⟨2, _⟩ => ⟨S1280, .f32⟩
  | .local .scVector .vmem, ⟨3, _⟩ => ⟨S1280, .f32⟩
  | _, _ => ⟨S32x32x224x224, .f32⟩

abbrev bufScoped : (cs : CoreSpace) → Fin (nBuf (.local .tc cs)) → Bool
  | .vmem, ⟨0, _⟩ => true
  | .vmem, ⟨1, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev main_v3_scv : Ref sig .scVector := ⟨.hbm, 7, rfl⟩
abbrev main_v4_0_scv : Ref sig .scVector := ⟨.hbm, 8, rfl⟩
abbrev main_v4_1_scv : Ref sig .scVector := ⟨.hbm, 9, rfl⟩
abbrev cc1_stg0_0 : Ref sig .tc := ⟨.vmem, 0, rfl⟩
abbrev cc1_stg1_0 : Ref sig .tc := ⟨.vmem, 1, rfl⟩
abbrev cc1_stg2_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 6
abbrev cc1_sem1_0 : DmaSem sig := 7
abbrev cc1_sem2_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c80_i32 : BitVec 32 := 80#32
  let v4 : BitVec 32 := Scalar.addi c0_i32_1 c80_i32
  let c1_i32 : BitVec 32 := 1#32
  ⟨c0_i32_1, v4, c1_i32⟩
def k0_off1 (k0_t1 : Fin k0_t1_loop.trips) : Fin 1 → Nat :=
  let c0_i32_1 : BitVec 32 := 0#32
  let c1_i32 : BitVec 32 := 1#32
  let arg12 : BitVec 32 := Scf.iv c0_i32_1 c1_i32 k0_t1
  let c16_i32 : BitVec 32 := 16#32
  let v15 : BitVec 32 := Scalar.muli arg12 c16_i32
  let v16 : Index := Scalar.indexCast v15
  ![v16.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50176_i32 : BitVec 32 := 50176#32
  let v5 : BitVec 32 := Scalar.muli v1 c50176_i32
  ![v5.toNat]
@[reducible] def k0_t2_loop : Scf.Loop 32 :=
  let c0_i32_5 : BitVec 32 := 0#32
  let c3136_i32 : BitVec 32 := 3136#32
  let v8 : BitVec 32 := Scalar.addi c0_i32_5 c3136_i32
  let c1_i32_6 : BitVec 32 := 1#32
  ⟨c0_i32_5, v8, c1_i32_6⟩
def k0_off3 (k0_t2 : Fin k0_t2_loop.trips) : Fin 1 → Nat :=
  let c0_i32_5 : BitVec 32 := 0#32
  let c1_i32_6 : BitVec 32 := 1#32
  let arg12 : BitVec 32 := Scf.iv c0_i32_5 c1_i32_6 k0_t2
  let c16_i32 : BitVec 32 := 16#32
  let v15 : BitVec 32 := Scalar.muli arg12 c16_i32
  let v16 : Index := Scalar.indexCast v15
  ![v16.toNat]

def k0_chk1 (v19 : IVec S16 32) : Prop :=
  (∀ a x, ((![v19] : Fin 1 → IVec S16 32) a x).toNat < S1280.size a)
theorem k0_idx1_inb : ∀ (v19 : IVec S16 32) (k0_hw1 : k0_chk1 v19), ∀ a x, ((![v19] : Fin 1 → IVec S16 32) a x).toNat < S1280.size a := fun v19 k0_hw1 => k0_hw1
@[reducible] def k0_t3_loop : Scf.Loop 32 :=
  let c0_i32_9 : BitVec 32 := 0#32
  let c32_i32 : BitVec 32 := 32#32
  let v9 : BitVec 32 := Scalar.addi c0_i32_9 c32_i32
  let c1_i32_10 : BitVec 32 := 1#32
  ⟨c0_i32_9, v9, c1_i32_10⟩
def k0_off4 (i : grid0.Coords) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_25 : BitVec 32 := 32#32
  let v15 : BitVec 32 := Scalar.muli v1 c32_i32_25
  let c0_i32_9 : BitVec 32 := 0#32
  let c1_i32_10 : BitVec 32 := 1#32
  let arg12 : BitVec 32 := Scf.iv c0_i32_9 c1_i32_10 k0_t3
  let v16 : BitVec 32 := Scalar.addi v15 arg12
  let c50176_i32_26 : BitVec 32 := 50176#32
  let v17 : BitVec 32 := Scalar.muli v16 c50176_i32_26
  ![v17.toNat]
@[reducible] def k0_t4_loop : Scf.Loop 32 :=
  let c0_i32_30 : BitVec 32 := 0#32
  let c3136_i32_31 : BitVec 32 := 3136#32
  let v20 : BitVec 32 := Scalar.addi c0_i32_30 c3136_i32_31
  let c1_i32_32 : BitVec 32 := 1#32
  ⟨c0_i32_30, v20, c1_i32_32⟩
def k0_off5 (k0_t4 : Fin k0_t4_loop.trips) : Fin 1 → Nat :=
  let c0_i32_30 : BitVec 32 := 0#32
  let c1_i32_32 : BitVec 32 := 1#32
  let arg13 : BitVec 32 := Scf.iv c0_i32_30 c1_i32_32 k0_t4
  let c16_i32 : BitVec 32 := 16#32
  let v21 : BitVec 32 := Scalar.muli arg13 c16_i32
  let v22 : Index := Scalar.indexCast v21
  ![v22.toNat]

def k0_chk2 (v28 : IVec S16 32) : Prop :=
  (∀ a x, ((![v28] : Fin 1 → IVec S16 32) a x).toNat < S1280.size a)
theorem k0_idx2_inb : ∀ (v28 : IVec S16 32) (k0_hw2 : k0_chk2 v28), ∀ a x, ((![v28] : Fin 1 → IVec S16 32) a x).toNat < S1280.size a := fun v28 k0_hw2 => k0_hw2
@[reducible] def k0_t5_loop : Scf.Loop 32 :=
  let c0_i32_16 : BitVec 32 := 0#32
  let c3136_i32_17 : BitVec 32 := 3136#32
  let v13 : BitVec 32 := Scalar.addi c0_i32_16 c3136_i32_17
  let c1_i32_18 : BitVec 32 := 1#32
  ⟨c0_i32_16, v13, c1_i32_18⟩
def k0_off6 (k0_t5 : Fin k0_t5_loop.trips) : Fin 1 → Nat :=
  let c0_i32_16 : BitVec 32 := 0#32
  let c1_i32_18 : BitVec 32 := 1#32
  let arg12 : BitVec 32 := Scf.iv c0_i32_16 c1_i32_18 k0_t5
  let c16_i32 : BitVec 32 := 16#32
  let v15 : BitVec 32 := Scalar.muli arg12 c16_i32
  let v16 : Index := Scalar.indexCast v15
  ![v16.toNat]

def k0_chk3 (v19 : IVec S16 32) : Prop :=
  (∀ a x, ((![v19] : Fin 1 → IVec S16 32) a x).toNat < S1280.size a)
theorem k0_idx3_inb : ∀ (v19 : IVec S16 32) (k0_hw3 : k0_chk3 v19), ∀ a x, ((![v19] : Fin 1 → IVec S16 32) a x).toNat < S1280.size a := fun v19 k0_hw3 => k0_hw3
@[reducible] def k0_t6_loop : Scf.Loop 32 :=
  let c0_i32_21 : BitVec 32 := 0#32
  let c32_i32_22 : BitVec 32 := 32#32
  let v14 : BitVec 32 := Scalar.addi c0_i32_21 c32_i32_22
  let c1_i32_23 : BitVec 32 := 1#32
  ⟨c0_i32_21, v14, c1_i32_23⟩
def k0_off7 (i : grid0.Coords) (k0_t6 : Fin k0_t6_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_25 : BitVec 32 := 32#32
  let v15 : BitVec 32 := Scalar.muli v1 c32_i32_25
  let c0_i32_21 : BitVec 32 := 0#32
  let c1_i32_23 : BitVec 32 := 1#32
  let arg12 : BitVec 32 := Scf.iv c0_i32_21 c1_i32_23 k0_t6
  let v16 : BitVec 32 := Scalar.addi v15 arg12
  let c50176_i32_26 : BitVec 32 := 50176#32
  let v17 : BitVec 32 := Scalar.muli v16 c50176_i32_26
  ![v17.toNat]
@[reducible] def k0_t7_loop : Scf.Loop 32 :=
  let c0_i32_29 : BitVec 32 := 0#32
  let c3136_i32_30 : BitVec 32 := 3136#32
  let v20 : BitVec 32 := Scalar.addi c0_i32_29 c3136_i32_30
  let c1_i32_31 : BitVec 32 := 1#32
  ⟨c0_i32_29, v20, c1_i32_31⟩
def k0_off8 (k0_t7 : Fin k0_t7_loop.trips) : Fin 1 → Nat :=
  let c0_i32_29 : BitVec 32 := 0#32
  let c1_i32_31 : BitVec 32 := 1#32
  let arg13 : BitVec 32 := Scf.iv c0_i32_29 c1_i32_31 k0_t7
  let c16_i32 : BitVec 32 := 16#32
  let v21 : BitVec 32 := Scalar.muli arg13 c16_i32
  let v22 : Index := Scalar.indexCast v21
  ![v22.toNat]

def k0_chk4 (v28 : IVec S16 32) : Prop :=
  (∀ a x, ((![v28] : Fin 1 → IVec S16 32) a x).toNat < S1280.size a)
theorem k0_idx4_inb : ∀ (v28 : IVec S16 32) (k0_hw4 : k0_chk4 v28), ∀ a x, ((![v28] : Fin 1 → IVec S16 32) a x).toNat < S1280.size a := fun v28 k0_hw4 => k0_hw4
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_25_r4 : BitVec 32 := 0#32
  ![v1.toNat, 0]
abbrev grid1 : Pipeline.Grid := .none

abbrev stage1_0 : Fin 1 → Memref sig .tc .vmem S32x1280 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x1280 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x32x224x224 : Shape := ⟨4, ![32, 32, 224, 224]⟩
abbrev S32x224x224 : Shape := ⟨3, ![32, 224, 224]⟩
abbrev S19 : Shape := ⟨1, ![19]⟩
abbrev S1x32x224x224 : Shape := ⟨4, ![1, 32, 224, 224]⟩
abbrev S19x1x1x1 : Shape := ⟨4, ![19, 1, 1, 1]⟩
abbrev S19x32x224x224 : Shape := ⟨4, ![19, 32, 224, 224]⟩
abbrev S19x32x1x224x224 : Shape := ⟨5, ![19, 32, 1, 224, 224]⟩
abbrev S1x32x32x224x224 : Shape := ⟨5, ![1, 32, 32, 224, 224]⟩
abbrev S19x32x32x224x224 : Shape := ⟨5, ![19, 32, 32, 224, 224]⟩
abbrev S_ : Shape := ⟨0, ![]⟩
abbrev S19x32x32 : Shape := ⟨3, ![19, 32, 32]⟩
abbrev S19x32 : Shape := ⟨2, ![19, 32]⟩
abbrev S19x1x32 : Shape := ⟨3, ![19, 1, 32]⟩

abbrev nBuf : Space → Nat
  | .hbm => 63
  | .vmem => 0
  | .smem => 0
  | _ => 0

abbrev bufTy : (tb : Table) → Fin (tcTables nBuf tb) → BufTy
  | .hbm, ⟨0, _⟩ => ⟨S32x32x224x224, .f32⟩
  | .hbm, ⟨1, _⟩ => ⟨S32x32x224x224, .f32⟩
  | .hbm, ⟨2, _⟩ => ⟨S32x224x224, .i32⟩
  | .hbm, ⟨3, _⟩ => ⟨S32x224x224, .i32⟩
  | .hbm, ⟨4, _⟩ => ⟨S19, .i32⟩
  | .hbm, ⟨5, _⟩ => ⟨S1x32x224x224, .i32⟩
  | .hbm, ⟨6, _⟩ => ⟨S19x1x1x1, .i32⟩
  | .hbm, ⟨7, _⟩ => ⟨S19x32x224x224, .i32⟩
  | .hbm, ⟨8, _⟩ => ⟨S19x32x224x224, .i32⟩
  | .hbm, ⟨9, _⟩ => ⟨S19x32x224x224, .i1⟩
  | .hbm, ⟨10, _⟩ => ⟨S19x32x224x224, .f32⟩
  | .hbm, ⟨11, _⟩ => ⟨S19x32x1x224x224, .f32⟩
  | .hbm, ⟨12, _⟩ => ⟨S1x32x32x224x224, .f32⟩
  | .hbm, ⟨13, _⟩ => ⟨S19x32x32x224x224, .f32⟩
  | .hbm, ⟨14, _⟩ => ⟨S19x32x32x224x224, .f32⟩
  | .hbm, ⟨15, _⟩ => ⟨S19x32x32x224x224, .f32⟩
  | .hbm, ⟨16, _⟩ => ⟨S_, .f32⟩
  | .hbm, ⟨17, _⟩ => ⟨S19x32x32, .f32⟩
  | .hbm, ⟨18, _⟩ => ⟨S_, .f32⟩
  | .hbm, ⟨19, _⟩ => ⟨S19x32, .f32⟩
  | .hbm, ⟨20, _⟩ => ⟨S_, .f32⟩
  | .hbm, ⟨21, _⟩ => ⟨S19x32, .f32⟩
  | .hbm, ⟨22, _⟩ => ⟨S19x32, .f32⟩
  | .hbm, ⟨23, _⟩ => ⟨S19x1x32, .f32⟩
  | .hbm, ⟨24, _⟩ => ⟨S19x32x32, .f32⟩
  | .hbm, ⟨25, _⟩ => ⟨S19x32x32, .f32⟩
  | .hbm, ⟨26, _⟩ => ⟨S_, .f32⟩
  | .hbm, ⟨27, _⟩ => ⟨S19x32, .f32⟩
  | .hbm, ⟨28, _⟩ => ⟨S_, .f32⟩
  | .hbm, ⟨29, _⟩ => ⟨S19x32, .f32⟩
  | .hbm, ⟨30, _⟩ => ⟨S19x32, .f32⟩
  | .hbm, ⟨31, _⟩ => ⟨S19, .i32⟩
  | .hbm, ⟨32, _⟩ => ⟨S1x32x224x224, .i32⟩
  | .hbm, ⟨33, _⟩ => ⟨S19x1x1x1, .i32⟩
  | .hbm, ⟨34, _⟩ => ⟨S19x32x224x224, .i32⟩
  | .hbm, ⟨35, _⟩ => ⟨S19x32x224x224, .i32⟩
  | .hbm, ⟨36, _⟩ => ⟨S19x32x224x224, .i1⟩
  | .hbm, ⟨37, _⟩ => ⟨S19x32x224x224, .f32⟩
  | .hbm, ⟨38, _⟩ => ⟨S19x32x1x224x224, .f32⟩
  | .hbm, ⟨39, _⟩ => ⟨S1x32x32x224x224, .f32⟩
  | .hbm, ⟨40, _⟩ => ⟨S19x32x32x224x224, .f32⟩
  | .hbm, ⟨41, _⟩ => ⟨S19x32x32x224x224, .f32⟩
  | .hbm, ⟨42, _⟩ => ⟨S19x32x32x224x224, .f32⟩
  | .hbm, ⟨43, _⟩ => ⟨S_, .f32⟩
  | .hbm, ⟨44, _⟩ => ⟨S19x32x32, .f32⟩
  | .hbm, ⟨45, _⟩ => ⟨S_, .f32⟩
  | .hbm, ⟨46, _⟩ => ⟨S19x32, .f32⟩
  | .hbm, ⟨47, _⟩ => ⟨S_, .f32⟩
  | .hbm, ⟨48, _⟩ => ⟨S19x32, .f32⟩
  | .hbm, ⟨49, _⟩ => ⟨S19x32, .f32⟩
  | .hbm, ⟨50, _⟩ => ⟨S19x1x32, .f32⟩
  | .hbm, ⟨51, _⟩ => ⟨S19x32x32, .f32⟩
  | .hbm, ⟨52, _⟩ => ⟨S19x32x32, .f32⟩
  | .hbm, ⟨53, _⟩ => ⟨S_, .f32⟩
  | .hbm, ⟨54, _⟩ => ⟨S19x32, .f32⟩
  | .hbm, ⟨55, _⟩ => ⟨S_, .f32⟩
  | .hbm, ⟨56, _⟩ => ⟨S19x32, .f32⟩
  | .hbm, ⟨57, _⟩ => ⟨S19x32, .f32⟩
  | .hbm, ⟨58, _⟩ => ⟨S19x32, .f32⟩
  | .hbm, ⟨59, _⟩ => ⟨S19x32, .f32⟩
  | .hbm, ⟨60, _⟩ => ⟨S_, .f32⟩
  | .hbm, ⟨61, _⟩ => ⟨S_, .f32⟩
  | .hbm, ⟨62, _⟩ => ⟨S_, .f32⟩
  | _, _ => ⟨S32x32x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Proof.Labels.lean ====
/-
  What the precondition says of the labels: every one is below nineteen.
-/
module

public import proofs.«01_k».proof.Defs
public import proofs.«01_k».proof.Proof.Gen.Pre_labels_in_range
public import Idealize.ShloMosaic.Lib.ReduceAll

@[expose] public section

noncomputable section

namespace Cert.Proof.Labels

open Idealize.ShloMosaic

instance instFacts : Cert.Pre_labels_in_range.Facts := Cert.Pre_labels_in_range.Gen.facts

instance noIdx : Subsingleton Cert.Pre_labels_in_range.S_.Idx := ⟨fun a b => funext fun i => i.elim0⟩

/-- A word at least zero and below nineteen, read signed, is below nineteen read unsigned. -/
theorem word_small (v : BitVec 32) (h : IntOp.andi (IntOp.cmpi .sge v 0#32) (IntOp.cmpi .slt v 19#32) = 1#1) : v.toNat < 19 := by
  have both (p q : Bool) : IntOp.andi (BitVec.ofBool p) (BitVec.ofBool q) = BitVec.ofBool (p && q) := by
    cases p <;> cases q <;> decide
  have one (p : Bool) : (BitVec.ofBool p = 1#1) ↔ p = true := by cases p <;> decide
  simp only [IntOp.cmpi, both, one, Bool.and_eq_true, BitVec.sle_eq_decide, BitVec.slt_eq_decide, decide_eq_true_eq,
    BitVec.toInt_eq_toNat_cond, BitVec.toNat_ofNat, Nat.reducePow, Nat.reduceMod] at h
  omega

/-- The precondition at some arguments gives both label arrays' words below nineteen. -/
theorem labels_small {F : FTy → Type} [FloatOps F] (a0 a1 : FVec F Cert.Pre_labels_in_range.S32x32x224x224 .f32)
    (a2 a3 : IVec Cert.Pre_labels_in_range.S32x224x224 32) (h : Cert.Pre_labels_in_range.fn (F := F) a0 a1 a2 a3 = fun _ => 1#1) :
    (∀ j, (a2 j).toNat < 19) ∧ (∀ j, (a3 j).toNat < 19) := by
  have e := congrFun h (fun i => i.elim0)
  have split (p q : BitVec 1) (h : IntOp.andi p q = 1#1) : p = 1#1 ∧ q = 1#1 := by
    revert p q; decide
  simp only [Cert.Pre_labels_in_range.fn] at e
  obtain ⟨e2, e3⟩ := split _ _ e
  exact ⟨fun j => word_small _ (Host.reduce_andi_all _ _ _ _ _ e2 j), fun j => word_small _ (Host.reduce_andi_all _ _ _ _ _ e3 j)⟩

end Cert.Proof.Labels

end
-- ==== Proof.Accum.lean ====
/-
  What a tile computes, as plain functions of the flat arrays: a row of 1280 cells into which a sequence of items is
  added, item `n` onto the cell numbered `ix n`. A scatter with add of sixteen lanes is sixteen steps of it.
-/
module

public import proofs.«01_k».proof.Defs

@[expose] public section

noncomputable section

namespace Cert.Proof.Accum

open Idealize.ShloMosaic Idealize.SL.Sem

variable {F : FTy → Type} [FloatOps F]

/-- A tile's row of accumulators. -/
abbrev Row : Shape := ⟨1, ![1280]⟩

/-- The element of a flat array at a number (taken modulo the length, so that every number names one). -/
def flat {n : ℕ} [NeZero n] {e : EltTy} (A : Vec F ⟨1, ![n]⟩ e) (p : ℕ) : Elt F e :=
  A (Shape.ofLane (d := ![n]) (Fin.ofNat n p))

omit [FloatOps F] in
/-- At an index of the array `flat` reads the array there. -/
theorem flat_val {n : ℕ} [NeZero n] {e : EltTy} (A : Vec F ⟨1, ![n]⟩ e) (j : (⟨1, ![n]⟩ : Shape).Idx) (p : ℕ) (h : p = (j 0).val) :
    flat A p = A j := by
  subst h
  unfold flat
  congr 1
  funext a
  apply Fin.ext
  have ha : a = 0 := Fin.eq_zero a
  subst ha
  show (j 0).val % n = (j 0).val
  exact Nat.mod_eq_of_lt (j 0).isLt

/-- The row after the first `n` items are added onto `f`: item `p` has value `v p` and goes to cell `ix p`. -/
def acc (f : Vec F Row .f32) (ix : ℕ → ℕ) (v : ℕ → F .f32) : ℕ → Vec F Row .f32
  | 0 => f
  | n + 1 => fun j => if (j 0).val = ix n then FloatOps.idxAddf (acc f ix v n j) (v n) else acc f ix v n j

/-- A left fold over the first numbers below `n`, each step a function of the number, is the recursion. -/
theorem foldl_finRange {α : Type} (step : α → ℕ → α) (g : ℕ → α) (hg : ∀ n, g (n + 1) = step (g n) n) (n : ℕ) :
    (List.finRange n).foldl (fun a k => step a k.val) (g 0) = g n := by
  have h : (List.finRange n).foldl (fun a k => step a k.val) (g 0) = (List.range n).foldl step (g 0) := by
    rw [← List.map_coe_finRange_eq_range, List.foldl_map]
  rw [h]
  induction n with
  | zero => rfl
  | succ n ih =>
    rw [List.range_succ, List.foldl_append, ih (by rw [← List.map_coe_finRange_eq_range, List.foldl_map]), hg]
    rfl

/-- A scatter with add of sixteen lanes, lane `l` carrying item `16 k + l`: the row moves from `16 k` items to
    `16 (k + 1)`. -/
theorem storeIdx_acc (f : Vec F Row .f32) (ix : ℕ → ℕ) (v : ℕ → F .f32) (k : ℕ)
    (idxs : Fin Row.rank → IVec ⟨1, ![16]⟩ 32) (val : Vec F ⟨1, ![16]⟩ .f32)
    (h : ∀ a x, (idxs a x).toNat < Row.size a)
    (hi : ∀ x, (idxs 0 x).toNat = ix (16 * k + (x 0).val)) (hv : ∀ x, val x = v (16 * k + (x 0).val)) :
    storeIdx (acc f ix v (16 * k)) idxs val (fun _ => 1#1) true h = acc f ix v (16 * (k + 1)) := by
  have key := foldl_finRange (fun (g : Vec F Row .f32) n => fun j : Row.Idx =>
      if (j 0).val = ix (16 * k + n) then FloatOps.idxAddf (g j) (v (16 * k + n)) else g j)
    (fun n => acc f ix v (16 * k + n)) (fun n => rfl) 16
  rw [show 16 * (k + 1) = 16 * k + 16 by ring, ← key]
  unfold storeIdx
  show List.foldl _ (acc f ix v (16 * k)) (List.finRange 16) = _
  congr 1
  funext g l j
  have hc : (∀ a : Fin Row.rank, (j a).val = (idxAt idxs h (Shape.ofLane (d := ![16]) l) a).val) ↔ (j 0).val = ix (16 * k + l.val) := by
    constructor
    · intro hh; exact (hh 0).trans (hi (Shape.ofLane (d := ![16]) l))
    · intro hh a
      have ha : a = 0 := Fin.eq_zero a
      subst ha
      exact hh.trans (hi (Shape.ofLane (d := ![16]) l)).symm
  by_cases hj : (j 0).val = ix (16 * k + l.val)
  · have hjj : idxAt idxs h (Shape.ofLane (d := ![16]) l) = j := by
      funext a; exact Fin.ext ((hc.mpr hj a).symm)
    refine ((if_pos (hc.mpr hj)).trans ?_).trans (if_pos hj).symm
    show FloatOps.idxAddf (g (idxAt idxs h (Shape.ofLane (d := ![16]) l))) (val (Shape.ofLane (d := ![16]) l)) = _
    rw [hjj, hv]
    rfl
  · exact (if_neg (fun e => hj (hc.mp e))).trans (if_neg hj).symm

/-! ## The two rows of a tile -/

/-- Pixel `p`'s label in image `w`, from the flat labels. -/
def labN (L : Vec F ⟨1, ![1605632]⟩ .i32) (w p : ℕ) : ℕ := BitVec.toNat (flat L (50176 * w + p) : BitVec 32)

/-- Pixel `p` of plane `r`, from the flat features. -/
def feaN (A : Vec F ⟨1, ![51380224]⟩ .f32) (r p : ℕ) : F .f32 := flat A (50176 * r + p)

/-- Zero and one as the kernel spells them. -/
def zeroC : F .f32 := Scalar.ofBits .f32 0x00000000#32
def oneC : F .f32 := Scalar.ofBits .f32 0x3F800000#32

/-- The row of sums after `c` channels of image `w`: channel `t`'s pixels go to the cells from `base + 20 t`, by label. -/
def sums (f : Vec F Row .f32) (base : ℕ) (A : Vec F ⟨1, ![51380224]⟩ .f32) (L : Vec F ⟨1, ![1605632]⟩ .i32) (w : ℕ) :
    ℕ → Vec F Row .f32
  | 0 => f
  | c + 1 => acc (sums f base A L w c) (fun p => labN L w p + (base + 20 * c)) (fun p => feaN A (32 * w + c) p) 50176

/-- Image `w`'s row of sums: the first features' channels in the first 640 cells, the second features' in the others. -/
def sumOut (A0 A1 : Vec F ⟨1, ![51380224]⟩ .f32) (L0 L1 : Vec F ⟨1, ![1605632]⟩ .i32) (w : ℕ) : Vec F Row .f32 :=
  sums (sums (fun _ => zeroC) 0 A0 L0 w 32) 640 A1 L1 w 32

/-- The row of counts after the first half: image `w`'s first labels, in the twenty cells from `20 w`. -/
def cntHalf (L0 : Vec F ⟨1, ![1605632]⟩ .i32) (w : ℕ) : ℕ → Vec F Row .f32 :=
  acc (fun _ => zeroC) (fun p => labN L0 w p + 20 * w) (fun _ => oneC)

/-- Image `w`'s row of counts: the first labels' in the cells from `20 w`, the second labels' in those from `20 (32 + w)`. -/
def cntOut (L0 L1 : Vec F ⟨1, ![1605632]⟩ .i32) (w : ℕ) : ℕ → Vec F Row .f32 :=
  acc (cntHalf L0 w 50176) (fun p => labN L1 w p + 20 * (32 + w)) (fun _ => oneC)

end Cert.Proof.Accum

end
-- ==== Proof.TileKernelIdeal.lean ====
/-
  One tile's work: the body of the SparseCore kernel on the vector subcore at grid coordinates `L`, run from its two
  label arrays and two feature arrays (read shares) and its row of each result, to the rows filled with the sums and
  the counts of `Accum`.
-/
module

public import proofs.«01_k».proof.Defs
public import proofs.«01_k».proof.Proof.Accum
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.TileKernelIdeal

open Cert.KernelIdeal Cert.KernelIdeal.Gen Cert.Proof.Accum

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The resources: the launch's handshakes, the loss call's staging cells, the tiles' transfers. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

/-! ## A tile and its scratch -/

section Tile

variable (d : Dev nD) (L : grid0.Coords)

/-- The tile's SparseCore, its subcore, and the image it works on. -/
abbrev cV (L : grid0.Coords) : Fin τ.nSC := (L 0).castLE hcore0
abbrev jV (L : grid0.Coords) : Fin τ.nSub := (L 1).castLE hsub0
def wid (L : grid0.Coords) : ℕ := 2 * (L 1).val + (L 0).val

omit [FloatOps F] in
theorem wid_lt (L : grid0.Coords) : wid L < 32 := by
  have h0 : (L 0).val < 2 := (L 0).isLt
  have h1 : (L 1).val < 16 := (L 1).isLt
  unfold wid; omega

/-- The labels of an image and the features of a plane, as the scratch buffers hold them. -/
def labs (A : Vec F S1605632 .i32) (w : ℕ) : Vec F S50176 .i32 := fun j => flat A (50176 * w + (j 0).val)
def feas (A : Vec F S51380224 .f32) (r : ℕ) : Vec F S50176 .f32 := fun j => flat A (50176 * r + (j 0).val)

/-- The four scratch buffers at given contents: labels, features, sums, counts. -/
def bLab (f : Vec F S50176 .i32) : sProp 𝕄 :=
  (Memref.whole cc0_scratch0 : Memref sig .scVector .vmem S50176 .i32).view.loc (V d (cV L) (jV L)) ↦{fullShare} f
def bFea (f : Vec F S50176 .f32) : sProp 𝕄 :=
  (Memref.whole cc0_scratch1 : Memref sig .scVector .vmem S50176 .f32).view.loc (V d (cV L) (jV L)) ↦{fullShare} f
def bSum (f : Vec F S1280 .f32) : sProp 𝕄 :=
  (Memref.whole cc0_scratch2 : Memref sig .scVector .vmem S1280 .f32).view.loc (V d (cV L) (jV L)) ↦{fullShare} f
def bCnt (f : Vec F S1280 .f32) : sProp 𝕄 :=
  (Memref.whole cc0_scratch3 : Memref sig .scVector .vmem S1280 .f32).view.loc (V d (cV L) (jV L)) ↦{fullShare} f

/-- Labels below nineteen. -/
def Small (A : Vec F S1605632 .i32) : Prop := ∀ j, (A j : BitVec 32).toNat < 19

omit [FloatOps F] in
theorem labN_lt {A : Vec F S1605632 .i32} (hA : Small A) (w p : ℕ) : labN A w p < 19 := hA _

/-! ## The counting loops -/

omit [FloatOps F] in
/-- Sixteen labels read from the label scratch at `q` are the image's pixels from `q`. -/
theorem read_lab (A : Vec F S1605632 .i32) (w q : ℕ) (off : Fin 1 → ℕ) (h : ∀ a, off a + S16.size a ≤ S50176.size a) (hq : off 0 = q)
    (x : S16.Idx) :
    (Memref.whole cc0_scratch0 : Memref sig .scVector .vmem S50176 .i32).view.readAt (Elt F)
        (Rect.unit (s := S50176) off S16.size h).toLoadRect (labs A w) x = flat A (50176 * w + (q + (x 0).val)) := by
  subst hq
  simp only [View.readAt_apply, Memref.view_whole, View.read_whole]
  unfold labs
  congr 2
  show off 0 + 1 * (x 0).val = _
  rw [one_mul]

omit [FloatOps F] in
/-- Sixteen features read from the feature scratch at `q` are the plane's pixels from `q`. -/
theorem read_fea (A : Vec F S51380224 .f32) (r q : ℕ) (off : Fin 1 → ℕ) (h : ∀ a, off a + S16.size a ≤ S50176.size a) (hq : off 0 = q)
    (x : S16.Idx) :
    (Memref.whole cc0_scratch1 : Memref sig .scVector .vmem S50176 .f32).view.readAt (Elt F)
        (Rect.unit (s := S50176) off S16.size h).toLoadRect (feas A r) x = feaN A r (q + (x 0).val) := by
  subst hq
  simp only [View.readAt_apply, Memref.view_whole, View.read_whole]
  unfold feas feaN
  congr 2
  show off 0 + 1 * (x 0).val = _
  rw [one_mul]

/-! ## The scatters -/

omit [FloatOps F] in
theorem bCnt_access (f : Vec F S1280 .f32) :
    (((Memref.whole cc0_scratch3 : Memref sig .scVector .vmem S1280 .f32).access (.whole S1280)).loc (V d (cV L) (jV L))
        ↦[((Memref.whole cc0_scratch3 : Memref sig .scVector .vmem S1280 .f32).access (.whole S1280)).set]{fullShare} f : sProp 𝕄)
      = bCnt d L f := by
  rw [show ((Memref.whole cc0_scratch3 : Memref sig .scVector .vmem S1280 .f32).access (.whole S1280)).set = Finset.univ
    from Memref.set_access_whole (cc0_scratch3 : Ref sig .scVector)]
  rfl

/-- A scatter with add into the row of counts: sixteen more items of the fold. -/
theorem bCnt_scatter {α : Type} (f : Vec F S1280 .f32) (ix : ℕ → ℕ) (v : ℕ → F .f32) (k : ℕ)
    (idxs : Fin S1280.rank → IVec S16 32) (val : Vec F S16 .f32) (h : ∀ a x, (idxs a x).toNat < S1280.size a)
    (hi : ∀ x : S16.Idx, (idxs 0 x).toNat = ix (16 * k + (x 0).val)) (hv : ∀ x : S16.Idx, val x = v (16 * k + (x 0).val))
    {hs : ((Memref.whole cc0_scratch3 : Memref sig .scVector .vmem S1280 .f32).access (.whole S1280)).Stores Finset.univ}
    {kk : PUnit → Prog (TpuEff nD τ sig (Elt F) Λ₀ (V d (cV L) (jV L)).2) α} {Q : α → sProp 𝕄} :
    bCnt d L (acc f ix v (16 * k))
      ⊢ iprop((bCnt d L (acc f ix v (16 * (k + 1))) -∗ wp frame (wpE (defs₀ (F := F)) 𝒱₀ (V d (cV L) (jV L)) none) Set.univ (kk ⟨⟩) Q)
        -∗ wp frame (wpE (defs₀ (F := F)) 𝒱₀ (V d (cV L) (jV L)) none) Set.univ
            (SparseCore.vectorStoreIdx (Memref.whole cc0_scratch3 : Memref sig .scVector .vmem S1280 .f32) idxs val (fun _ => 1#1) true h hs >>= kk) Q) := by
  have key := SparseCore.wp_vectorStoreIdx (s := S1280) (e := .f32) (defs := defs₀ (F := F)) (Q := Q) (k := kk) (idxs := idxs) (v := val) (mask := fun _ => 1#1) (add := true) (h := h) (hs := hs)
    𝒱₀ (V d (cV L) (jV L)) none Set.univ (base := (Memref.whole cc0_scratch3 : Memref sig .scVector .vmem S1280 .f32))
    (f := acc f ix v (16 * k))
  have hw : ((Memref.whole cc0_scratch3 : Memref sig .scVector .vmem S1280 .f32).access (.whole S1280)).write (Elt F) (acc f ix v (16 * k))
      (storeIdx (((Memref.whole cc0_scratch3 : Memref sig .scVector .vmem S1280 .f32).access (.whole S1280)).read (Elt F) (acc f ix v (16 * k)))
        idxs val (fun _ => 1#1) true h) Finset.univ = acc f ix v (16 * (k + 1)) :=
    (Memref.write_access_whole_univ (Elt F) (cc0_scratch3 : Ref sig .scVector) _ _).trans
      ((congrArg (fun g => storeIdx g idxs val (fun _ => 1#1) true h)
        (Memref.read_access_whole (Elt F) (cc0_scratch3 : Ref sig .scVector) (acc f ix v (16 * k)))).trans
        (storeIdx_acc f ix v k idxs val h hi hv))
  rw [hw, bCnt_access, bCnt_access] at key
  exact key

omit [FloatOps F] in
theorem bSum_access (f : Vec F S1280 .f32) :
    (((Memref.whole cc0_scratch2 : Memref sig .scVector .vmem S1280 .f32).access (.whole S1280)).loc (V d (cV L) (jV L))
        ↦[((Memref.whole cc0_scratch2 : Memref sig .scVector .vmem S1280 .f32).access (.whole S1280)).set]{fullShare} f : sProp 𝕄)
      = bSum d L f := by
  rw [show ((Memref.whole cc0_scratch2 : Memref sig .scVector .vmem S1280 .f32).access (.whole S1280)).set = Finset.univ
    from Memref.set_access_whole (cc0_scratch2 : Ref sig .scVector)]
  rfl

/-- A scatter with add into the row of sums: sixteen more items of the fold. -/
theorem bSum_scatter {α : Type} (f : Vec F S1280 .f32) (ix : ℕ → ℕ) (v : ℕ → F .f32) (k : ℕ)
    (idxs : Fin S1280.rank → IVec S16 32) (val : Vec F S16 .f32) (h : ∀ a x, (idxs a x).toNat < S1280.size a)
    (hi : ∀ x : S16.Idx, (idxs 0 x).toNat = ix (16 * k + (x 0).val)) (hv : ∀ x : S16.Idx, val x = v (16 * k + (x 0).val))
    {hs : ((Memref.whole cc0_scratch2 : Memref sig .scVector .vmem S1280 .f32).access (.whole S1280)).Stores Finset.univ}
    {kk : PUnit → Prog (TpuEff nD τ sig (Elt F) Λ₀ (V d (cV L) (jV L)).2) α} {Q : α → sProp 𝕄} :
    bSum d L (acc f ix v (16 * k))
      ⊢ iprop((bSum d L (acc f ix v (16 * (k + 1))) -∗ wp frame (wpE (defs₀ (F := F)) 𝒱₀ (V d (cV L) (jV L)) none) Set.univ (kk ⟨⟩) Q)
        -∗ wp frame (wpE (defs₀ (F := F)) 𝒱₀ (V d (cV L) (jV L)) none) Set.univ
            (SparseCore.vectorStoreIdx (Memref.whole cc0_scratch2 : Memref sig .scVector .vmem S1280 .f32) idxs val (fun _ => 1#1) true h hs >>= kk) Q) := by
  have key := SparseCore.wp_vectorStoreIdx (s := S1280) (e := .f32) (defs := defs₀ (F := F)) (Q := Q) (k := kk) (idxs := idxs) (v := val) (mask := fun _ => 1#1) (add := true) (h := h) (hs := hs)
    𝒱₀ (V d (cV L) (jV L)) none Set.univ (base := (Memref.whole cc0_scratch2 : Memref sig .scVector .vmem S1280 .f32))
    (f := acc f ix v (16 * k))
  have hw : ((Memref.whole cc0_scratch2 : Memref sig .scVector .vmem S1280 .f32).access (.whole S1280)).write (Elt F) (acc f ix v (16 * k))
      (storeIdx (((Memref.whole cc0_scratch2 : Memref sig .scVector .vmem S1280 .f32).access (.whole S1280)).read (Elt F) (acc f ix v (16 * k)))
        idxs val (fun _ => 1#1) true h) Finset.univ = acc f ix v (16 * (k + 1)) :=
    (Memref.write_access_whole_univ (Elt F) (cc0_scratch2 : Ref sig .scVector) _ _).trans
      ((congrArg (fun g => storeIdx g idxs val (fun _ => 1#1) true h)
        (Memref.read_access_whole (Elt F) (cc0_scratch2 : Ref sig .scVector) (acc f ix v (16 * k)))).trans
        (storeIdx_acc f ix v k idxs val h hi hv))
  rw [hw, bSum_access, bSum_access] at key
  exact key

/-- The cells a trip of the first counting loop names: the label plus twenty times the image. -/
theorem pay4_val (A : Vec F S1605632 .i32) (hA : Small A) (w q : ℕ) (hw : w = wid L) (v : Vec F S16 .i32)
    (hv : ∀ x : S16.Idx, v x = flat A (50176 * w + (q + (x 0).val))) (x : S16.Idx) :
    (k0_pay4 (F := F) L v x).toNat = labN A w (q + (x 0).val) + 20 * w := by
  have h := labN_lt hA w (q + (x 0).val)
  have hb := wid_lt L
  unfold labN at h ⊢
  rw [← hv x] at h ⊢
  unfold k0_pay4
  show (BitVec.add (v x : BitVec 32) _).toNat = _
  have h0 : (L 0).val < 2 := (L 0).isLt
  have h1 : (L 1).val < 16 := (L 1).isLt
  unfold wid at hb hw
  generalize (v x : BitVec 32) = a at *
  simp only [Scalar.muli, Scalar.addi, IntOp.muli, IntOp.addi, broadcast, BitVec.add_eq, BitVec.toNat_add, BitVec.toNat_mul, BitVec.toNat_ofNat]
  subst hw
  omega

/-- A trip of the first counting loop: sixteen labels read, sixteen ones added. -/
theorem t2_step (A : Vec F S1605632 .i32) (hA : Small A) (f : Vec F S1280 .f32) (k : Fin k0_t2_loop.trips) :
    iprop(bLab d L (labs A (wid L)) ∗ bCnt d L (acc f (fun p => labN A (wid L) p + 20 * wid L) (fun _ => oneC) (16 * k.val)))
      ⊢ wp frame (wpE (defs₀ (F := F)) 𝒱₀ (V d (cV L) (jV L)) none) Set.univ
          (k0_t2_body L (Memref.whole main_v0_scv) (Memref.isWhole_whole _) (Memref.whole main_v1_scv) (Memref.isWhole_whole _)
            (Memref.whole main_v2_scv) (Memref.isWhole_whole _) (Memref.whole main_v3_scv) (Memref.isWhole_whole _)
            (Memref.whole main_v4_0_scv) (Memref.isWhole_whole _) (Memref.whole main_v4_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scoped0 cc0_scoped1 cc0_scoped2 cc0_scoped3 cc0_scoped4 cc0_scoped5 k ⟨⟩)
          fun _ => iprop(bLab d L (labs A (wid L))
            ∗ bCnt d L (acc f (fun p => labN A (wid L) p + 20 * wid L) (fun _ => oneC) (16 * (k.val + 1)))) := by
  unfold k0_t2_body bLab
  iintro ⟨Hl, Hc⟩
  sl_exec
  have hx : ∀ x : S16.Idx, (t2_step.sl.v19 (F := F) L A k x).toNat = labN A (wid L) (16 * k.val + (x 0).val) + 20 * wid L := fun x =>
    pay4_val L A hA (wid L) (16 * k.val) rfl _
      (fun x => read_lab A (wid L) (16 * k.val) (k0_off3 k) (k0_off3_inb k) (by rw [k0_off3_eq]; rfl) x) x
  have hb := wid_lt L
  have hchk : k0_chk1 (t2_step.sl.v19 (F := F) L A k) := by
    intro a x
    have ha : a = 0 := Fin.eq_zero a
    subst ha
    show (t2_step.sl.v19 (F := F) L A k x).toNat < 1280
    rw [hx]
    have := labN_lt hA (wid L) (16 * k.val + (x 0).val)
    omega
  rw [wp_assume_of _ _ _ _ hchk]
  iapply (bCnt_scatter d L f (fun p => labN A (wid L) p + 20 * wid L) (fun _ => oneC) k.val ![t2_step.sl.v19 (F := F) L A k] (k0_pay3 (F := F)) hchk
    hx (fun _ => rfl)) $$ Hc
  iintro Hc
  sl_step
  isplitl [Hl]; · iexact Hl
  iexact Hc

/-- The cells a trip of the second counting loop names: the label plus twenty times the image. -/
theorem pay6_val (A : Vec F S1605632 .i32) (hA : Small A) (w q : ℕ) (hw : w = wid L) (v : Vec F S16 .i32)
    (hv : ∀ x : S16.Idx, v x = flat A (50176 * w + (q + (x 0).val))) (x : S16.Idx) :
    (k0_pay6 (F := F) L v x).toNat = labN A w (q + (x 0).val) + 20 * (32 + w) := by
  have h := labN_lt hA w (q + (x 0).val)
  have hb := wid_lt L
  unfold labN at h ⊢
  rw [← hv x] at h ⊢
  unfold k0_pay6
  show (BitVec.add (v x : BitVec 32) _).toNat = _
  have h0 : (L 0).val < 2 := (L 0).isLt
  have h1 : (L 1).val < 16 := (L 1).isLt
  unfold wid at hb hw
  generalize (v x : BitVec 32) = a at *
  simp only [Scalar.muli, Scalar.addi, IntOp.muli, IntOp.addi, broadcast, BitVec.add_eq, BitVec.toNat_add, BitVec.toNat_mul, BitVec.toNat_ofNat]
  subst hw
  omega

/-- A trip of the second counting loop: sixteen labels read, sixteen ones added. -/
theorem t5_step (A : Vec F S1605632 .i32) (hA : Small A) (f : Vec F S1280 .f32) (k : Fin k0_t5_loop.trips) :
    iprop(bLab d L (labs A (wid L)) ∗ bCnt d L (acc f (fun p => labN A (wid L) p + 20 * (32 + wid L)) (fun _ => oneC) (16 * k.val)))
      ⊢ wp frame (wpE (defs₀ (F := F)) 𝒱₀ (V d (cV L) (jV L)) none) Set.univ
          (k0_t5_body L (Memref.whole main_v0_scv) (Memref.isWhole_whole _) (Memref.whole main_v1_scv) (Memref.isWhole_whole _)
            (Memref.whole main_v2_scv) (Memref.isWhole_whole _) (Memref.whole main_v3_scv) (Memref.isWhole_whole _)
            (Memref.whole main_v4_0_scv) (Memref.isWhole_whole _) (Memref.whole main_v4_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scoped0 cc0_scoped1 cc0_scoped2 cc0_scoped3 cc0_scoped4 cc0_scoped5 k ⟨⟩)
          fun _ => iprop(bLab d L (labs A (wid L))
            ∗ bCnt d L (acc f (fun p => labN A (wid L) p + 20 * (32 + wid L)) (fun _ => oneC) (16 * (k.val + 1)))) := by
  unfold k0_t5_body bLab
  iintro ⟨Hl, Hc⟩
  sl_exec
  have hx : ∀ x : S16.Idx, (t5_step.sl.v19 (F := F) L A k x).toNat = labN A (wid L) (16 * k.val + (x 0).val) + 20 * (32 + wid L) := fun x =>
    pay6_val L A hA (wid L) (16 * k.val) rfl _
      (fun x => read_lab A (wid L) (16 * k.val) (k0_off6 k) (k0_off6_inb k) (by rw [k0_off6_eq]; rfl) x) x
  have hb := wid_lt L
  have hchk : k0_chk3 (t5_step.sl.v19 (F := F) L A k) := by
    intro a x
    have ha : a = 0 := Fin.eq_zero a
    subst ha
    show (t5_step.sl.v19 (F := F) L A k x).toNat < 1280
    rw [hx]
    have := labN_lt hA (wid L) (16 * k.val + (x 0).val)
    omega
  rw [wp_assume_of _ _ _ _ hchk]
  iapply (bCnt_scatter d L f (fun p => labN A (wid L) p + 20 * (32 + wid L)) (fun _ => oneC) k.val ![t5_step.sl.v19 (F := F) L A k] (k0_pay3 (F := F)) hchk
    hx (fun _ => rfl)) $$ Hc
  iintro Hc
  sl_step
  isplitl [Hl]; · iexact Hl
  iexact Hc

/-! ## The channel loops -/

/-- The cells a trip of the first features' channel loop names: the label plus twenty times the channel. -/
theorem pay5_val (t : Fin k0_t3_loop.trips) (A : Vec F S1605632 .i32) (hA : Small A) (w q : ℕ) (v : Vec F S16 .i32)
    (hv : ∀ x : S16.Idx, v x = flat A (50176 * w + (q + (x 0).val))) (x : S16.Idx) :
    (k0_pay5 (F := F) t v x).toNat = labN A w (q + (x 0).val) + (0 + 20 * t.val) := by
  have h := labN_lt hA w (q + (x 0).val)
  have ht : t.val < 32 := lt_of_lt_of_le t.isLt k0_t3_abs.2.1
  unfold labN at h ⊢
  rw [← hv x] at h ⊢
  unfold k0_pay5
  show (BitVec.add (v x : BitVec 32) _).toNat = _
  generalize (v x : BitVec 32) = a at *
  simp only [Scalar.muli, Scalar.addi, IntOp.muli, IntOp.addi, Scf.iv, broadcast, BitVec.add_eq, BitVec.mul_eq, BitVec.toNat_add, BitVec.toNat_mul,
    BitVec.toNat_ofNat]
  omega

/-- A trip of the first features' channel's loop: sixteen labels and sixteen features read, the features added. -/
theorem t4_step (t : Fin k0_t3_loop.trips) (A : Vec F S1605632 .i32) (hA : Small A) (B : Vec F S51380224 .f32) (f : Vec F S1280 .f32)
    (k : Fin k0_t4_loop.trips) :
    iprop(bLab d L (labs A (wid L)) ∗ bFea d L (feas B (32 * wid L + t.val))
        ∗ bSum d L (acc f (fun p => labN A (wid L) p + (0 + 20 * t.val)) (fun p => feaN B (32 * wid L + t.val) p) (16 * k.val)))
      ⊢ wp frame (wpE (defs₀ (F := F)) 𝒱₀ (V d (cV L) (jV L)) none) Set.univ
          (k0_t4_body L (Memref.whole main_v0_scv) (Memref.isWhole_whole _) (Memref.whole main_v1_scv) (Memref.isWhole_whole _)
            (Memref.whole main_v2_scv) (Memref.isWhole_whole _) (Memref.whole main_v3_scv) (Memref.isWhole_whole _)
            (Memref.whole main_v4_0_scv) (Memref.isWhole_whole _) (Memref.whole main_v4_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scoped0 cc0_scoped1 cc0_scoped2 cc0_scoped3 cc0_scoped4 cc0_scoped5 t k ⟨⟩)
          fun _ => iprop(bLab d L (labs A (wid L)) ∗ bFea d L (feas B (32 * wid L + t.val))
            ∗ bSum d L (acc f (fun p => labN A (wid L) p + (0 + 20 * t.val)) (fun p => feaN B (32 * wid L + t.val) p) (16 * (k.val + 1)))) := by
  unfold k0_t4_body bLab bFea
  iintro ⟨Hl, Hf, Hc⟩
  sl_exec
  have hx : ∀ x : S16.Idx, (t4_step.sl.v28 (F := F) L t A k x).toNat = labN A (wid L) (16 * k.val + (x 0).val) + (0 + 20 * t.val) := fun x =>
    pay5_val t A hA (wid L) (16 * k.val) _
      (fun x => read_lab A (wid L) (16 * k.val) (k0_off5 k) (k0_off5_inb k) (by rw [k0_off5_eq]; rfl) x) x
  have ht : t.val < 32 := lt_of_lt_of_le t.isLt k0_t3_abs.2.1
  have hchk : k0_chk2 (t4_step.sl.v28 (F := F) L t A k) := by
    intro a x
    have ha : a = 0 := Fin.eq_zero a
    subst ha
    show (t4_step.sl.v28 (F := F) L t A k x).toNat < 1280
    rw [hx]
    have := labN_lt hA (wid L) (16 * k.val + (x 0).val)
    omega
  rw [wp_assume_of _ _ _ _ hchk]
  iapply (bSum_scatter d L f (fun p => labN A (wid L) p + (0 + 20 * t.val)) (fun p => feaN B (32 * wid L + t.val) p) k.val
    ![t4_step.sl.v28 (F := F) L t A k] _ hchk hx
    (fun x => read_fea B (32 * wid L + t.val) (16 * k.val) (k0_off5 k) (k0_off5_inb k) (by rw [k0_off5_eq]; rfl) x)) $$ Hc
  iintro Hc
  sl_step
  isplitl [Hl]; · iexact Hl
  isplitl [Hf]; · iexact Hf
  iexact Hc

/-- The cells a trip of the second features' channel loop names: the label plus twenty times the channel, after the first 640. -/
theorem pay1_val (t : Fin k0_t6_loop.trips) (A : Vec F S1605632 .i32) (hA : Small A) (w q : ℕ) (v : Vec F S16 .i32)
    (hv : ∀ x : S16.Idx, v x = flat A (50176 * w + (q + (x 0).val))) (x : S16.Idx) :
    (k0_pay1 (F := F) t v x).toNat = labN A w (q + (x 0).val) + (640 + 20 * t.val) := by
  have h := labN_lt hA w (q + (x 0).val)
  have ht : t.val < 32 := lt_of_lt_of_le t.isLt k0_t6_abs.2.1
  unfold labN at h ⊢
  rw [← hv x] at h ⊢
  unfold k0_pay1
  show (BitVec.add (v x : BitVec 32) _).toNat = _
  generalize (v x : BitVec 32) = a at *
  simp only [Scalar.muli, Scalar.addi, IntOp.muli, IntOp.addi, Scf.iv, broadcast, BitVec.add_eq, BitVec.mul_eq, BitVec.toNat_add, BitVec.toNat_mul,
    BitVec.toNat_ofNat]
  omega

/-- A trip of the second features' channel's loop: sixteen labels and sixteen features read, the features added. -/
theorem t7_step (t : Fin k0_t6_loop.trips) (A : Vec F S1605632 .i32) (hA : Small A) (B : Vec F S51380224 .f32) (f : Vec F S1280 .f32)
    (k : Fin k0_t7_loop.trips) :
    iprop(bLab d L (labs A (wid L)) ∗ bFea d L (feas B (32 * wid L + t.val))
        ∗ bSum d L (acc f (fun p => labN A (wid L) p + (640 + 20 * t.val)) (fun p => feaN B (32 * wid L + t.val) p) (16 * k.val)))
      ⊢ wp frame (wpE (defs₀ (F := F)) 𝒱₀ (V d (cV L) (jV L)) none) Set.univ
          (k0_t7_body L (Memref.whole main_v0_scv) (Memref.isWhole_whole _) (Memref.whole main_v1_scv) (Memref.isWhole_whole _)
            (Memref.whole main_v2_scv) (Memref.isWhole_whole _) (Memref.whole main_v3_scv) (Memref.isWhole_whole _)
            (Memref.whole main_v4_0_scv) (Memref.isWhole_whole _) (Memref.whole main_v4_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scoped0 cc0_scoped1 cc0_scoped2 cc0_scoped3 cc0_scoped4 cc0_scoped5 t k ⟨⟩)
          fun _ => iprop(bLab d L (labs A (wid L)) ∗ bFea d L (feas B (32 * wid L + t.val))
            ∗ bSum d L (acc f (fun p => labN A (wid L) p + (640 + 20 * t.val)) (fun p => feaN B (32 * wid L + t.val) p) (16 * (k.val + 1)))) := by
  unfold k0_t7_body bLab bFea
  iintro ⟨Hl, Hf, Hc⟩
  sl_exec
  have hx : ∀ x : S16.Idx, (t7_step.sl.v28 (F := F) L t A k x).toNat = labN A (wid L) (16 * k.val + (x 0).val) + (640 + 20 * t.val) := fun x =>
    pay1_val t A hA (wid L) (16 * k.val) _
      (fun x => read_lab A (wid L) (16 * k.val) (k0_off8 k) (k0_off8_inb k) (by rw [k0_off8_eq]; rfl) x) x
  have ht : t.val < 32 := lt_of_lt_of_le t.isLt k0_t6_abs.2.1
  have hchk : k0_chk4 (t7_step.sl.v28 (F := F) L t A k) := by
    intro a x
    have ha : a = 0 := Fin.eq_zero a
    subst ha
    show (t7_step.sl.v28 (F := F) L t A k x).toNat < 1280
    rw [hx]
    have := labN_lt hA (wid L) (16 * k.val + (x 0).val)
    omega
  rw [wp_assume_of _ _ _ _ hchk]
  iapply (bSum_scatter d L f (fun p => labN A (wid L) p + (640 + 20 * t.val)) (fun p => feaN B (32 * wid L + t.val) p) k.val
    ![t7_step.sl.v28 (F := F) L t A k] _ hchk hx
    (fun x => read_fea B (32 * wid L + t.val) (16 * k.val) (k0_off8 k) (k0_off8_inb k) (by rw [k0_off8_eq]; rfl) x)) $$ Hc
  iintro Hc
  sl_step
  isplitl [Hl]; · iexact Hl
  isplitl [Hf]; · iexact Hf
  iexact Hc

end Tile

end Cert.Proof.TileKernelIdeal

end
-- ==== Proof.BodyKernelIdeal.lean ====
/-
  One tile's whole body, put together from its loops' trips: the rows cleared, the labels fetched, the counts and the
  sums of the two halves folded in, and the two rows written out.
-/
module

public import proofs.«01_k».proof.Proof.TileKernelIdeal
public import Idealize.ShloMosaic.Lib.Writes

@[expose] public section

noncomputable section

namespace Cert.Proof.TileKernelIdeal

open Cert.KernelIdeal Cert.KernelIdeal.Gen Cert.Proof.Accum

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Body

variable (d : Dev nD) (L : grid0.Coords)

/-! ## The rows cleared -/

/-- The first `n` cells of a row are zero. -/
def Cleared (n : ℕ) (f : Vec F S1280 .f32) : Prop := ∀ j : S1280.Idx, (j 0).val < n → f j = zeroC

/-- Sixteen zeros stored at cell `16 * k` of a row cleared up to there leave it cleared sixteen further. -/
theorem cleared_store (v : View sig .scVector .vmem S1280 .f32) (f : v.ty.Contents (Elt F)) (k : ℕ) (off : Fin 1 → ℕ) (h : ∀ a, off a + S16.size a ≤ S1280.size a)
    (hq : off 0 = 16 * k) (hf : Cleared (16 * k) (v.read (Elt F) f)) :
    Cleared (F := F) (16 * (k + 1)) (v.read (Elt F) ((v.slice (Rect.unit (s := S1280) off S16.size h)).write (Elt F) f (k0_pay2 (F := F)) Finset.univ)) := by
  intro j hj
  rw [← View.writes_singleton]
  by_cases hlt : (j 0).val < 16 * k
  · rw [View.read_writes_cons_miss_of_axis v f _ [] j 0 (16 * k) 16 hq rfl rfl (.inl hlt)]
    exact hf j hlt
  · have hx : (j 0).val - 16 * k < 16 := by omega
    rw [View.read_writes_cons_hit_of_coords v f _ _ [] (fun a => ⟨(j 0).val - 16 * k, by rw [Fin.eq_zero a]; exact hx⟩) j (by
      intro a
      rw [Fin.eq_zero a]
      show (j 0).val = off 0 + 1 * ((j 0).val - 16 * k)
      omega)]
    rfl

/-- A trip of the clearing loop. -/
theorem t1_step (k : Fin k0_t1_loop.trips) (f g : Vec F S1280 .f32) (hf : Cleared (16 * k.val) f) (hg : Cleared (16 * k.val) g) :
    iprop(bSum d L f ∗ bCnt d L g)
      ⊢ wp frame (wpE (defs₀ (F := F)) 𝒱₀ (V d (cV L) (jV L)) none) Set.univ
          (k0_t1_body L (Memref.whole main_v0_scv) (Memref.isWhole_whole _) (Memref.whole main_v1_scv) (Memref.isWhole_whole _)
            (Memref.whole main_v2_scv) (Memref.isWhole_whole _) (Memref.whole main_v3_scv) (Memref.isWhole_whole _)
            (Memref.whole main_v4_0_scv) (Memref.isWhole_whole _) (Memref.whole main_v4_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scoped0 cc0_scoped1 cc0_scoped2 cc0_scoped3 cc0_scoped4 cc0_scoped5 k ⟨⟩)
          fun _ => iprop((∃ f, ⌜Cleared (16 * (k.val + 1)) f⌝ ∗ bSum d L f) ∗ ∃ f, ⌜Cleared (16 * (k.val + 1)) f⌝ ∗ bCnt d L f) := by
  unfold k0_t1_body bSum bCnt
  iintro ⟨Hs, Hc⟩
  sl_exec
  sl_step
  isplitl [Hs]
  · iexists _; isplitr
    · ipureintro
      exact cleared_store (Memref.whole cc0_scratch2 : Memref sig .scVector .vmem S1280 .f32).view f k.val (k0_off1 k) (k0_off1_inb k) (by rw [k0_off1_eq]; rfl) hf
    · iexact Hs
  · iexists _; isplitr
    · ipureintro
      exact cleared_store (Memref.whole cc0_scratch3 : Memref sig .scVector .vmem S1280 .f32).view g k.val (k0_off1 k) (k0_off1_inb k) (by rw [k0_off1_eq]; rfl) hg
    · iexact Hc

/-! ## The fetches -/

/-- The labels and features in HBM, as a tile's memrefs address them, held at a read share. -/
def hFs (q : PosShare TreeShare) (A : Vec F S51380224 .f32) : sProp 𝕄 :=
  (Memref.whole main_v0_scv : Memref sig .scVector .hbm S51380224 .f32).view.loc (V d (cV L) (jV L)) ↦{q} A
def hFt (q : PosShare TreeShare) (A : Vec F S51380224 .f32) : sProp 𝕄 :=
  (Memref.whole main_v1_scv : Memref sig .scVector .hbm S51380224 .f32).view.loc (V d (cV L) (jV L)) ↦{q} A
def hLs (q : PosShare TreeShare) (A : Vec F S1605632 .i32) : sProp 𝕄 :=
  (Memref.whole main_v2_scv : Memref sig .scVector .hbm S1605632 .i32).view.loc (V d (cV L) (jV L)) ↦{q} A
def hLt (q : PosShare TreeShare) (A : Vec F S1605632 .i32) : sProp 𝕄 :=
  (Memref.whole main_v3_scv : Memref sig .scVector .hbm S1605632 .i32).view.loc (V d (cV L) (jV L)) ↦{q} A

/-- What a tile waits and owes, its waits recorded at no call's index beyond `W`. -/
def owed (O : CellTallies nD τ sig (HIx 1)) (W : Waits sig (HIx 1)) : sProp 𝕄 :=
  iprop(Transfers.MayWaits (V d (cV L) (jV L)) (none : HIx 1) O
    ∗ ∃ W', ⌜∀ p ∈ W', p ∈ W ∨ p.2 = none⌝ ∗ owes (V d (cV L) (jV L)) O W')

theorem insert_waits {W W' : Waits sig (HIx 1)} (h : ∀ p ∈ W', p ∈ W ∨ p.2 = none) (g : SemLoc sig) :
    ∀ p ∈ insert (g, (none : HIx 1)) W', p ∈ W ∨ p.2 = none := by
  intro p hp
  rcases Finset.mem_insert.mp hp with hp | hp
  · exact .inr (hp ▸ rfl)
  · exact h p hp

omit [FloatOps F] in
/-- A whole-scratch write of the plane at offset `50176 * r` leaves that plane. -/
theorem fetch_fea (g : Vec F S50176 .f32) (r : ℕ) (off : Fin 1 → ℕ) (h : ∀ a, off a + S50176.size a ≤ S51380224.size a) (hq : off 0 = 50176 * r)
    (w : Vec F S50176 .f32) (B : Vec F S51380224 .f32)
    (hv : ∀ x : S50176.Idx, w x = B ((Rect.unit (s := S51380224) off S50176.size h).emb x)) :
    (Memref.whole cc0_scratch1 : Memref sig .scVector .vmem S50176 .f32).view.write (Elt F) g w Finset.univ = feas B r := by
  refine (View.write_whole_univ (cc0_scratch1 : Ref sig .scVector) _ _).trans ?_
  funext x
  refine (hv x).trans (flat_val B _ _ ?_).symm
  show 50176 * r + (x 0).val = off 0 + 1 * (x 0).val
  omega

/-- A trip of the first features' loop, one channel: its plane fetched and folded in. -/
theorem t3_step (q : PosShare TreeShare) (A : Vec F S1605632 .i32) (hA : Small A) (B : Vec F S51380224 .f32) (f : Vec F S1280 .f32)
    (O : CellTallies nD τ sig (HIx 1)) (W : Waits sig (HIx 1)) (t : Fin k0_t3_loop.trips) :
    iprop(owed d L O W ∗ hFs d L q B ∗ semVal (V d (cV L) (jV L), SemLoc.dma cc0_scoped1.sem) 0
        ∗ bLab d L (labs A (wid L)) ∗ (∃ g, bFea d L g) ∗ bSum d L (sums f 0 B A (wid L) t.val))
      ⊢ wp frame (wpE (defs₀ (F := F)) 𝒱₀ (V d (cV L) (jV L)) none) Set.univ
          (k0_t3_body L (Memref.whole main_v0_scv) (Memref.isWhole_whole _) (Memref.whole main_v1_scv) (Memref.isWhole_whole _)
            (Memref.whole main_v2_scv) (Memref.isWhole_whole _) (Memref.whole main_v3_scv) (Memref.isWhole_whole _)
            (Memref.whole main_v4_0_scv) (Memref.isWhole_whole _) (Memref.whole main_v4_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scoped0 cc0_scoped1 cc0_scoped2 cc0_scoped3 cc0_scoped4 cc0_scoped5 t ⟨⟩)
          fun _ => iprop(owed d L O W ∗ hFs d L q B ∗ semVal (V d (cV L) (jV L), SemLoc.dma cc0_scoped1.sem) 0
            ∗ bLab d L (labs A (wid L)) ∗ (∃ g, bFea d L g) ∗ bSum d L (sums f 0 B A (wid L) (t.val + 1))) := by
  unfold k0_t3_body owed hFs
  iintro ⟨⟨Hmw, %W', %hW', HO⟩, Hh, Hsem, Hl, ⟨%g, Hf⟩, Hs⟩
  unfold bFea
  sl_exec (disch := exact View.amount_pos _ _ (show 0 < S50176.numel by decide))
  have hoff : k0_off4 L t 0 = 50176 * (32 * wid L + t.val) := by
    rw [k0_off4_eq]; show 3211264 * (L 1).val + 1605632 * (L 0).val + 50176 * t.val = _; unfold wid; omega
  have hw : ∀ x : S50176.Idx, t3_step.sl.dma0 (F := F) L B t x = B ((Rect.unit (s := S51380224) (k0_off4 L t) S50176.size (k0_off4_inb L t)).emb x) := by
    intro x; rfl
  rw [fetch_fea g (32 * wid L + t.val) (k0_off4 L t) (k0_off4_inb L t) hoff (t3_step.sl.dma0 (F := F) L B t) B hw]
  sl_for (fun n _ => iprop(bLab d L (labs A (wid L)) ∗ bFea d L (feas B (32 * wid L + t.val))
    ∗ bSum d L (acc (sums f 0 B A (wid L) t.val) (fun p => labN A (wid L) p + (0 + 20 * t.val)) (fun p => feaN B (32 * wid L + t.val) p) (16 * n)))) $$ [Hl Hf Hs]
  case region =>
    intro k _
    exact t4_step d L t A hA B _ k
  · isplitl [Hl]; · iexact Hl
    isplitl [Hf]; · unfold bFea; iexact Hf
    iexact Hs
  iintro %_ ⟨Hl, Hf, Hs⟩
  sl_step
  isplitl [Hmw HO]
  · isplitl [Hmw]; · iexact Hmw
    iexists (insert (SemLoc.dma cc0_scoped1.sem, (none : HIx 1)) W'); isplitr; · ipureintro; exact insert_waits hW' _
    iexact HO
  isplitl [Hh]; · iexact Hh
  isplitl [Hsem]; · iexact Hsem
  isplitl [Hl]; · iexact Hl
  isplitl [Hf]; · iexists (feas B (32 * wid L + t.val)); unfold bFea; iexact Hf
  iexact Hs

/-- A trip of the second features' loop, one channel: its plane fetched and folded in. -/
theorem t6_step (q : PosShare TreeShare) (A : Vec F S1605632 .i32) (hA : Small A) (B : Vec F S51380224 .f32) (f : Vec F S1280 .f32)
    (O : CellTallies nD τ sig (HIx 1)) (W : Waits sig (HIx 1)) (t : Fin k0_t6_loop.trips) :
    iprop(owed d L O W ∗ hFt d L q B ∗ semVal (V d (cV L) (jV L), SemLoc.dma cc0_scoped3.sem) 0
        ∗ bLab d L (labs A (wid L)) ∗ (∃ g, bFea d L g) ∗ bSum d L (sums f 640 B A (wid L) t.val))
      ⊢ wp frame (wpE (defs₀ (F := F)) 𝒱₀ (V d (cV L) (jV L)) none) Set.univ
          (k0_t6_body L (Memref.whole main_v0_scv) (Memref.isWhole_whole _) (Memref.whole main_v1_scv) (Memref.isWhole_whole _)
            (Memref.whole main_v2_scv) (Memref.isWhole_whole _) (Memref.whole main_v3_scv) (Memref.isWhole_whole _)
            (Memref.whole main_v4_0_scv) (Memref.isWhole_whole _) (Memref.whole main_v4_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scoped0 cc0_scoped1 cc0_scoped2 cc0_scoped3 cc0_scoped4 cc0_scoped5 t ⟨⟩)
          fun _ => iprop(owed d L O W ∗ hFt d L q B ∗ semVal (V d (cV L) (jV L), SemLoc.dma cc0_scoped3.sem) 0
            ∗ bLab d L (labs A (wid L)) ∗ (∃ g, bFea d L g) ∗ bSum d L (sums f 640 B A (wid L) (t.val + 1))) := by
  unfold k0_t6_body owed hFt
  iintro ⟨⟨Hmw, %W', %hW', HO⟩, Hh, Hsem, Hl, ⟨%g, Hf⟩, Hs⟩
  unfold bFea
  sl_exec (disch := exact View.amount_pos _ _ (show 0 < S50176.numel by decide))
  have hoff : k0_off7 L t 0 = 50176 * (32 * wid L + t.val) := by
    rw [k0_off7_eq]; show 3211264 * (L 1).val + 1605632 * (L 0).val + 50176 * t.val = _; unfold wid; omega
  have hw : ∀ x : S50176.Idx, t6_step.sl.dma0 (F := F) L B t x = B ((Rect.unit (s := S51380224) (k0_off7 L t) S50176.size (k0_off7_inb L t)).emb x) := by
    intro x; rfl
  rw [fetch_fea g (32 * wid L + t.val) (k0_off7 L t) (k0_off7_inb L t) hoff (t6_step.sl.dma0 (F := F) L B t) B hw]
  sl_for (fun n _ => iprop(bLab d L (labs A (wid L)) ∗ bFea d L (feas B (32 * wid L + t.val))
    ∗ bSum d L (acc (sums f 640 B A (wid L) t.val) (fun p => labN A (wid L) p + (640 + 20 * t.val)) (fun p => feaN B (32 * wid L + t.val) p) (16 * n)))) $$ [Hl Hf Hs]
  case region =>
    intro k _
    exact t7_step d L t A hA B _ k
  · isplitl [Hl]; · iexact Hl
    isplitl [Hf]; · unfold bFea; iexact Hf
    iexact Hs
  iintro %_ ⟨Hl, Hf, Hs⟩
  sl_step
  isplitl [Hmw HO]
  · isplitl [Hmw]; · iexact Hmw
    iexists (insert (SemLoc.dma cc0_scoped3.sem, (none : HIx 1)) W'); isplitr; · ipureintro; exact insert_waits hW' _
    iexact HO
  isplitl [Hh]; · iexact Hh
  isplitl [Hsem]; · iexact Hsem
  isplitl [Hl]; · iexact Hl
  isplitl [Hf]; · iexists (feas B (32 * wid L + t.val)); unfold bFea; iexact Hf
  iexact Hs

omit [FloatOps F] in
/-- A whole-scratch write of the labels at offset `50176 * w` leaves that image's labels. -/
theorem fetch_lab (g : Vec F S50176 .i32) (w : ℕ) (off : Fin 1 → ℕ) (h : ∀ a, off a + S50176.size a ≤ S1605632.size a) (hq : off 0 = 50176 * w)
    (u : Vec F S50176 .i32) (B : Vec F S1605632 .i32)
    (hv : ∀ x : S50176.Idx, u x = B ((Rect.unit (s := S1605632) off S50176.size h).emb x)) :
    (Memref.whole cc0_scratch0 : Memref sig .scVector .vmem S50176 .i32).view.write (Elt F) g u Finset.univ = labs B w := by
  refine (View.write_whole_univ (cc0_scratch0 : Ref sig .scVector) _ _).trans ?_
  funext x
  refine (hv x).trans (flat_val B _ _ ?_).symm
  show 50176 * w + (x 0).val = off 0 + 1 * (x 0).val
  omega

theorem off2_val : k0_off2 L 0 = 50176 * wid L := by
  rw [k0_off2_eq]; show 100352 * (L 1).val + 50176 * (L 0).val = _; unfold wid; omega

/-- A row cleared to its end is the zero row. -/
theorem cleared_all {f : Vec F S1280 .f32} (h : Cleared 1280 f) : f = fun _ => zeroC := funext fun j => h j (j 0).isLt

/-- The first part of the body: the rows cleared, the first labels counted, the first features summed, the second labels counted. -/
theorem part1 (q : PosShare TreeShare) (A0 A1 : Vec F S1605632 .i32) (hA0 : Small A0) (hA1 : Small A1) (B : Vec F S51380224 .f32)
    (O : CellTallies nD τ sig (HIx 1)) (W : Waits sig (HIx 1)) :
    iprop(owed d L O W ∗ hFs d L q B ∗ hLs d L q A0 ∗ hLt d L q A1 ∗ semVal (V d (cV L) (jV L), SemLoc.dma cc0_scoped0.sem) 0
        ∗ semVal (V d (cV L) (jV L), SemLoc.dma cc0_scoped1.sem) 0 ∗ semVal (V d (cV L) (jV L), SemLoc.dma cc0_scoped2.sem) 0
        ∗ (∃ g, bLab d L g) ∗ (∃ g, bFea d L g) ∗ (∃ g, bSum d L g) ∗ (∃ g, bCnt d L g))
      ⊢ wp frame (wpE (defs₀ (F := F)) 𝒱₀ (V d (cV L) (jV L)) none) Set.univ
          (k0_part1 L (Memref.whole main_v0_scv) (Memref.isWhole_whole _) (Memref.whole main_v1_scv) (Memref.isWhole_whole _)
            (Memref.whole main_v2_scv) (Memref.isWhole_whole _) (Memref.whole main_v3_scv) (Memref.isWhole_whole _)
            (Memref.whole main_v4_0_scv) (Memref.isWhole_whole _) (Memref.whole main_v4_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scoped0 cc0_scoped1 cc0_scoped2 cc0_scoped3 cc0_scoped4 cc0_scoped5)
          fun _ => iprop(owed d L O W ∗ hFs d L q B ∗ hLs d L q A0 ∗ hLt d L q A1 ∗ semVal (V d (cV L) (jV L), SemLoc.dma cc0_scoped0.sem) 0
            ∗ semVal (V d (cV L) (jV L), SemLoc.dma cc0_scoped1.sem) 0 ∗ semVal (V d (cV L) (jV L), SemLoc.dma cc0_scoped2.sem) 0
            ∗ bLab d L (labs A1 (wid L)) ∗ (∃ g, bFea d L g) ∗ bSum d L (sums (fun _ => zeroC) 0 B A0 (wid L) 32)
            ∗ bCnt d L (cntOut A0 A1 (wid L) 50176)) := by
  rw [k0_part1_eq_skeleton]
  unfold k0_part1_skel owed
  iintro ⟨⟨Hmw, %W₁, %hW₁, HO⟩, Hfs, Hls, Hlt, Hs0, Hs1, Hs2, ⟨%gl, Hl⟩, ⟨%gf, Hf⟩, ⟨%gs, Hs⟩, ⟨%gc, Hc⟩⟩
  -- the rows cleared
  sl_exec
  sl_for (fun n _ => iprop((∃ f, ⌜Cleared (16 * n) f⌝ ∗ bSum d L f) ∗ ∃ f, ⌜Cleared (16 * n) f⌝ ∗ bCnt d L f)) $$ [Hs Hc]
  case region =>
    intro k _
    iintro ⟨⟨%f, %hf, Hs⟩, ⟨%g, %hg, Hc⟩⟩
    iapply (t1_step d L k f g hf hg)
    isplitl [Hs]; · iexact Hs
    iexact Hc
  · isplitl [Hs]
    · iexists gs; isplitr; · ipureintro; exact fun j hj => absurd hj (Nat.not_lt_zero _)
      iexact Hs
    · iexists gc; isplitr; · ipureintro; exact fun j hj => absurd hj (Nat.not_lt_zero _)
      iexact Hc
  iintro %_ ⟨⟨%f, %hf, Hs⟩, ⟨%g, %hg, Hc⟩⟩
  obtain rfl := cleared_all hf
  obtain rfl := cleared_all hg
  -- the first labels fetched and counted
  unfold hLs bLab
  sl_exec (disch := exact View.amount_pos _ _ (show 0 < S50176.numel by decide))
  rw [fetch_lab gl (wid L) (k0_off2 L) (k0_off2_inb L) (off2_val L) (part1.sl.dma0 (F := F) L A0) A0 (fun x => rfl)]
  sl_for (fun n _ => iprop(bLab d L (labs A0 (wid L)) ∗ bCnt d L (cntHalf A0 (wid L) (16 * n)))) $$ [Hl Hc]
  case region =>
    intro k _
    exact t2_step d L A0 hA0 (fun _ => zeroC) k
  · isplitl [Hl]; · unfold bLab; iexact Hl
    iexact Hc
  iintro %_ ⟨Hl, Hc⟩
  sl_exec
  -- the first features folded in
  sl_for (fun n _ => iprop(owed d L O W ∗ hFs d L q B ∗ semVal (V d (cV L) (jV L), SemLoc.dma cc0_scoped1.sem) 0
        ∗ bLab d L (labs A0 (wid L)) ∗ (∃ g, bFea d L g) ∗ bSum d L (sums (fun _ => zeroC) 0 B A0 (wid L) n))) $$ [Hmw HO Hfs Hs1 Hl Hf Hs]
  case region =>
    intro k _
    exact t3_step d L q A0 hA0 B (fun _ => zeroC) O W k
  · isplitl [Hmw HO]
    · unfold owed
      isplitl [Hmw]; · iexact Hmw
      iexists (insert (SemLoc.dma cc0_scoped0.sem, (none : HIx 1)) W₁); isplitr; · ipureintro; exact insert_waits hW₁ _
      iexact HO
    isplitl [Hfs]; · iexact Hfs
    isplitl [Hs1]; · iexact Hs1
    isplitl [Hl]; · iexact Hl
    isplitl [Hf]; · iexists gf; iexact Hf
    iexact Hs
  unfold owed
  iintro %_ ⟨⟨Hmw, %W₂, %hW₂, HO⟩, Hfs, Hs1, Hl, ⟨%gf', Hf⟩, Hs⟩
  -- the second labels fetched and counted
  unfold hLt bLab
  sl_exec (disch := exact View.amount_pos _ _ (show 0 < S50176.numel by decide))
  rw [fetch_lab (labs A0 (wid L)) (wid L) (k0_off2 L) (k0_off2_inb L) (off2_val L) (part1.sl.dma0_1 (F := F) L A1) A1 (fun x => rfl)]
  sl_for (fun n _ => iprop(bLab d L (labs A1 (wid L)) ∗ bCnt d L (cntOut A0 A1 (wid L) (16 * n)))) $$ [Hl Hc]
  case region =>
    intro k _
    exact t5_step d L A1 hA1 (cntHalf A0 (wid L) 50176) k
  · isplitl [Hl]; · unfold bLab; iexact Hl
    iexact Hc
  iintro %_ ⟨Hl, Hc⟩
  unfold bLab
  sl_exec
  sl_step
  isplitl [Hmw HO]
  · isplitl [Hmw]; · iexact Hmw
    iexists (insert (SemLoc.dma cc0_scoped2.sem, (none : HIx 1)) W₂); isplitr; · ipureintro; exact insert_waits hW₂ _
    iexact HO
  isplitl [Hfs]; · iexact Hfs
  isplitl [Hls]; · iexact Hls
  isplitl [Hlt]; · iexact Hlt
  isplitl [Hs0]; · iexact Hs0
  isplitl [Hs1]; · iexact Hs1
  isplitl [Hs2]; · iexact Hs2
  isplitl [Hl]; · iexact Hl
  isplitl [Hf]; · iexists gf'; iexact Hf
  isplitl [Hs]; · iexact Hs
  iexact Hc

/-! ## The rows written out -/

/-- The cells of row `w` of a result, and the row of a result as a tile's memref addresses it. -/
def rowSet (w : ℕ) : Finset S32x1280.Idx := Finset.univ.filter fun j => (j 0).val = w

abbrev rowR (L : grid0.Coords) : Rect S32x1280 := Rect.unit (s := S32x1280) (k0_off9 L) S1x1280.size (k0_off9_inb L)

abbrev rowS (L : grid0.Coords) : Memref sig .scVector .hbm S1280 .f32 :=
  ((Memref.whole main_v4_0_scv : Memref sig .scVector .hbm S32x1280 .f32).slice (rowR L) (fun _ => rfl)).squeeze S1280 squeezes_S1x1280_S1280
abbrev rowC (L : grid0.Coords) : Memref sig .scVector .hbm S1280 .f32 :=
  ((Memref.whole main_v4_1_scv : Memref sig .scVector .hbm S32x1280 .f32).slice (rowR L) (fun _ => rfl)).squeeze S1280 squeezes_S1x1280_S1280

/-- Where the row's memref places a cell: in the tile's row, at the cell's column. -/
def rowE (L : grid0.Coords) (x : S1280.Idx) : S32x1280.Idx := (rowR L).emb (Shape.reshapeEquiv squeezes_S1x1280_S1280.numel_eq x)

theorem rowE_row (x : S1280.Idx) : (rowE L x 0).val = wid L := by
  unfold rowE
  rw [Shape.reshapeEquiv_cons_one]
  show k0_off9 L 0 + 1 * 0 = _
  rw [k0_off9_eq]; rfl

theorem rowE_col (x : S1280.Idx) : (rowE L x 1).val = (x 0).val := by
  unfold rowE
  rw [Shape.reshapeEquiv_cons_one]
  show k0_off9 L 1 + 1 * (x 0).val = _
  rw [k0_off9_eq, one_mul]; exact Nat.zero_add _

theorem mem_rowSet (j : S32x1280.Idx) : j ∈ rowSet (wid L) ↔ ∃ x, rowE L x = j := by
  unfold rowSet
  rw [Finset.mem_filter]
  constructor
  · rintro ⟨-, h⟩
    refine ⟨fun a => ⟨(j 1).val, by rw [Fin.eq_zero a]; exact (j 1).isLt⟩, funext fun a => Fin.ext ?_⟩
    match a with
    | 0 => rw [rowE_row]; exact h.symm
    | 1 => rw [rowE_col]
  · rintro ⟨x, rfl⟩
    exact ⟨Finset.mem_univ _, rowE_row L x⟩

theorem set_rowS : (rowS L).view.set = rowSet (wid L) := by
  ext j
  rw [mem_rowSet]
  constructor
  · intro h
    obtain ⟨x, -, hx⟩ := Finset.mem_map.mp h
    exact ⟨x, hx⟩
  · rintro ⟨x, rfl⟩
    exact View.emb_mem_set (rowS L).view x

theorem set_rowC : (rowC L).view.set = rowSet (wid L) := by
  ext j
  rw [mem_rowSet]
  constructor
  · intro h
    obtain ⟨x, -, hx⟩ := Finset.mem_map.mp h
    exact ⟨x, hx⟩
  · rintro ⟨x, rfl⟩
    exact View.emb_mem_set (rowC L).view x

/-- The two results, whole: row `w` is image `w`'s row. -/
def sumArr (B0 B1 : Vec F S51380224 .f32) (A0 A1 : Vec F S1605632 .i32) : Vec F S32x1280 .f32 :=
  fun j => flat (sumOut B0 B1 A0 A1 (j 0).val) (j 1).val
def cntArr (A0 A1 : Vec F S1605632 .i32) : Vec F S32x1280 .f32 :=
  fun j => flat (cntOut A0 A1 (j 0).val 50176) (j 1).val

/-- A tile's row of each result, as its memref addresses it. -/
def rS (f : Vec F S32x1280 .f32) : sProp 𝕄 := (rowS L).view.loc (V d (cV L) (jV L)) ↦[(rowS L).view.set]{fullShare} f
def rC (f : Vec F S32x1280 .f32) : sProp 𝕄 := (rowC L).view.loc (V d (cV L) (jV L)) ↦[(rowC L).view.set]{fullShare} f

omit [FloatOps F] in
/-- A row of sums written whole is that row of the array, and likewise of counts. -/
theorem row_written (v : View sig .scVector .hbm S1280 .f32) (f : v.ty.Contents (Elt F)) (w : Vec F S1280 .f32) (x : S1280.Idx) :
    v.read (Elt F) (v.writes (Elt F) f [⟨Rect.whole S1280, w⟩]) x = w x :=
  View.read_writes_cons_hit_of_coords v f (Rect.whole S1280) w [] x x fun a => by
    show (x a).val = 0 + 1 * (x a).val
    omega

omit [FloatOps F] in
/-- Reading a row's memref reads the array at the row's cell. -/
theorem rowS_at (g : Vec F S32x1280 .f32) (x : S1280.Idx) : (rowS L).view.read (Elt F) g x = g (rowE L x) := rfl
omit [FloatOps F] in
theorem rowC_at (g : Vec F S32x1280 .f32) (x : S1280.Idx) : (rowC L).view.read (Elt F) g x = g (rowE L x) := rfl

/-- A row's memref written whole holds, in its cells, the array's row. -/
theorem rS_cell (B0 B1 : Vec F S51380224 .f32) (A0 A1 : Vec F S1605632 .i32) (f0 : Vec F S32x1280 .f32) (w : Vec F S1280 .f32)
    (hw : ∀ x, w x = sumOut B0 B1 A0 A1 (wid L) x) (i : S32x1280.Idx) (hi : i ∈ (rowS L).view.set) :
    (rowS L).view.writes (Elt F) f0 [⟨Rect.whole S1280, w⟩] i = sumArr B0 B1 A0 A1 i := by
  rw [set_rowS] at hi
  obtain ⟨x, rfl⟩ := (mem_rowSet L i).mp hi
  have h : sumArr B0 B1 A0 A1 (rowE L x) = sumOut B0 B1 A0 A1 (wid L) x := by
    unfold sumArr
    rw [rowE_row]
    generalize sumOut B0 B1 A0 A1 (wid L) = R
    exact flat_val R x _ (rowE_col L x)
  rw [h, ← hw x]
  exact (rowS_at L _ x).symm.trans (row_written (rowS L).view f0 w x)

theorem rS_written (B0 B1 : Vec F S51380224 .f32) (A0 A1 : Vec F S1605632 .i32) (f0 : Vec F S32x1280 .f32) (w : Vec F S1280 .f32)
    (hw : ∀ x, w x = sumOut B0 B1 A0 A1 (wid L) x) :
    ((rowS L).view.loc (V d (cV L) (jV L)) ↦[(rowS L).view.set]{fullShare} (rowS L).view.writes (Elt F) f0 [⟨Rect.whole S1280, w⟩] : sProp 𝕄)
      = (rowS L).view.loc (V d (cV L) (jV L)) ↦[(rowS L).view.set]{fullShare} sumArr B0 B1 A0 A1 :=
  pointsTo_congr (rS_cell L B0 B1 A0 A1 f0 w hw)

/-- A row's memref written whole holds, in its cells, the array's row. -/
theorem rC_cell (A0 A1 : Vec F S1605632 .i32) (f1 : Vec F S32x1280 .f32) (w : Vec F S1280 .f32)
    (hw : ∀ x, w x = cntOut A0 A1 (wid L) 50176 x) (i : S32x1280.Idx) (hi : i ∈ (rowC L).view.set) :
    (rowC L).view.writes (Elt F) f1 [⟨Rect.whole S1280, w⟩] i = cntArr A0 A1 i := by
  rw [set_rowC] at hi
  obtain ⟨x, rfl⟩ := (mem_rowSet L i).mp hi
  have h : cntArr A0 A1 (rowE L x) = cntOut A0 A1 (wid L) 50176 x := by
    unfold cntArr
    rw [rowE_row]
    generalize cntOut A0 A1 (wid L) 50176 = R
    exact flat_val R x _ (rowE_col L x)
  rw [h, ← hw x]
  exact (rowC_at L _ x).symm.trans (row_written (rowC L).view f1 w x)

theorem rC_written (A0 A1 : Vec F S1605632 .i32) (f1 : Vec F S32x1280 .f32) (w : Vec F S1280 .f32)
    (hw : ∀ x, w x = cntOut A0 A1 (wid L) 50176 x) :
    ((rowC L).view.loc (V d (cV L) (jV L)) ↦[(rowC L).view.set]{fullShare} (rowC L).view.writes (Elt F) f1 [⟨Rect.whole S1280, w⟩] : sProp 𝕄)
      = (rowC L).view.loc (V d (cV L) (jV L)) ↦[(rowC L).view.set]{fullShare} cntArr A0 A1 :=
  pointsTo_congr (rC_cell L A0 A1 f1 w hw)

/-- The whole body on a tile. -/
theorem body (q : PosShare TreeShare) (A0 A1 : Vec F S1605632 .i32) (hA0 : Small A0) (hA1 : Small A1) (B0 B1 : Vec F S51380224 .f32)
    (f0 f1 : Vec F S32x1280 .f32) (O : CellTallies nD τ sig (HIx 1)) (W : Waits sig (HIx 1)) :
    iprop(owed d L O W ∗ hFs d L q B0 ∗ hFt d L q B1 ∗ hLs d L q A0 ∗ hLt d L q A1 ∗ rS d L f0 ∗ rC d L f1
        ∗ (semVal (V d (cV L) (jV L), SemLoc.dma cc0_scoped0.sem) 0 ∗ semVal (V d (cV L) (jV L), SemLoc.dma cc0_scoped1.sem) 0
          ∗ semVal (V d (cV L) (jV L), SemLoc.dma cc0_scoped2.sem) 0 ∗ semVal (V d (cV L) (jV L), SemLoc.dma cc0_scoped3.sem) 0
          ∗ semVal (V d (cV L) (jV L), SemLoc.dma cc0_scoped4.sem) 0 ∗ semVal (V d (cV L) (jV L), SemLoc.dma cc0_scoped5.sem) 0)
        ∗ (∃ g, bLab d L g) ∗ (∃ g, bFea d L g) ∗ (∃ g, bSum d L g) ∗ (∃ g, bCnt d L g))
      ⊢ wp frame (wpE (defs₀ (F := F)) 𝒱₀ (V d (cV L) (jV L)) none) Set.univ
          (cc0__sc_body L (Memref.whole main_v0_scv) (Memref.isWhole_whole _) (Memref.whole main_v1_scv) (Memref.isWhole_whole _)
            (Memref.whole main_v2_scv) (Memref.isWhole_whole _) (Memref.whole main_v3_scv) (Memref.isWhole_whole _)
            (Memref.whole main_v4_0_scv) (Memref.isWhole_whole _) (Memref.whole main_v4_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scoped0 cc0_scoped1 cc0_scoped2 cc0_scoped3 cc0_scoped4 cc0_scoped5)
          fun _ => iprop(owed d L O W ∗ hFs d L q B0 ∗ hFt d L q B1 ∗ hLs d L q A0 ∗ hLt d L q A1 ∗ rS d L (sumArr B0 B1 A0 A1) ∗ rC d L (cntArr A0 A1)
            ∗ (semVal (V d (cV L) (jV L), SemLoc.dma cc0_scoped0.sem) 0 ∗ semVal (V d (cV L) (jV L), SemLoc.dma cc0_scoped1.sem) 0
              ∗ semVal (V d (cV L) (jV L), SemLoc.dma cc0_scoped2.sem) 0 ∗ semVal (V d (cV L) (jV L), SemLoc.dma cc0_scoped3.sem) 0
              ∗ semVal (V d (cV L) (jV L), SemLoc.dma cc0_scoped4.sem) 0 ∗ semVal (V d (cV L) (jV L), SemLoc.dma cc0_scoped5.sem) 0)
            ∗ (∃ g, bLab d L g) ∗ (∃ g, bFea d L g) ∗ (∃ g, bSum d L g) ∗ (∃ g, bCnt d L g)) := by
  rw [cc0__sc_body_eq_skeleton]
  unfold cc0__sc_body_skel
  rw [wp_bind]
  iintro ⟨Ho, Hfs, Hft, Hls, Hlt, Hr0, Hr1, ⟨Hs0, Hs1, Hs2, Hs3, Hs4, Hs5⟩, Hl, Hf, Hs, Hc⟩
  ihave Hp := (part1 d L q A0 A1 hA0 hA1 B0 O W) $$ [Ho Hfs Hls Hlt Hs0 Hs1 Hs2 Hl Hf Hs Hc]
  · isplitl [Ho]; · iexact Ho
    isplitl [Hfs]; · iexact Hfs
    isplitl [Hls]; · iexact Hls
    isplitl [Hlt]; · iexact Hlt
    isplitl [Hs0]; · iexact Hs0
    isplitl [Hs1]; · iexact Hs1
    isplitl [Hs2]; · iexact Hs2
    isplitl [Hl]; · iexact Hl
    isplitl [Hf]; · iexact Hf
    isplitl [Hs]; · iexact Hs
    iexact Hc
  iapply wp_wand_r
  isplitl [Hp]; · iexact Hp
  iintro %_ ⟨Ho, Hfs, Hls, Hlt, Hs0, Hs1, Hs2, Hl, Hf, Hs, Hc⟩
  -- the second features folded in
  sl_for (fun n _ => iprop(owed d L O W ∗ hFt d L q B1 ∗ semVal (V d (cV L) (jV L), SemLoc.dma cc0_scoped3.sem) 0
        ∗ bLab d L (labs A1 (wid L)) ∗ (∃ g, bFea d L g) ∗ bSum d L (sums (sums (fun _ => zeroC) 0 B0 A0 (wid L) 32) 640 B1 A1 (wid L) n))) $$ [Ho Hft Hs3 Hl Hf Hs]
  case region =>
    intro k _
    exact t6_step d L q A1 hA1 B1 (sums (fun _ => zeroC) 0 B0 A0 (wid L) 32) O W k
  · isplitl [Ho]; · iexact Ho
    isplitl [Hft]; · iexact Hft
    isplitl [Hs3]; · iexact Hs3
    isplitl [Hl]; · iexact Hl
    isplitl [Hf]; · iexact Hf
    iexact Hs
  unfold owed bSum bCnt rS rC
  iintro %_ ⟨⟨Hmw, %W₂, %hW₂, HO⟩, Hft, Hs3, Hl, Hf, Hs⟩
  -- the rows written out
  sl_exec
  sl_step
  ihave Hr0 := (Entails.of_eq (rS_written d L B0 B1 A0 A1 f0 (body.sl.dma0 (F := F) L A0 A1 B0 B1) (fun x => rfl))) $$ Hr0
  ihave Hr1 := (Entails.of_eq (rC_written d L A0 A1 f1 (body.sl.dma0_1 (F := F) L A0 A1) (fun x => rfl))) $$ Hr1
  isplitl [Hmw HO]
  · isplitl [Hmw]; · iexact Hmw
    iexists (insert (SemLoc.dma cc0_scoped5.sem, (none : HIx 1)) (insert (SemLoc.dma cc0_scoped4.sem, (none : HIx 1)) W₂)); isplitr
    · ipureintro; exact insert_waits (insert_waits hW₂ _) _
    iexact HO
  isplitl [Hfs]; · iexact Hfs
  isplitl [Hft]; · iexact Hft
  isplitl [Hls]; · iexact Hls
  isplitl [Hlt]; · iexact Hlt
  isplitl [Hr0]; · iexact Hr0
  isplitl [Hr1]; · iexact Hr1
  isplitl [Hs0 Hs1 Hs2 Hs3 Hs4 Hs5]
  · isplitl [Hs0]; · iexact Hs0
    isplitl [Hs1]; · iexact Hs1
    isplitl [Hs2]; · iexact Hs2
    isplitl [Hs3]; · iexact Hs3
    isplitl [Hs4]; · iexact Hs4
    iexact Hs5
  isplitl [Hl]; · iexists (labs A1 (wid L)); iexact Hl
  isplitl [Hf]; · iexact Hf
  isplitl [Hs]; · iexists (sumOut B0 B1 A0 A1 (wid L)); iexact Hs
  iexists (cntOut A0 A1 (wid L) 50176); iexact Hc

end Body

end Cert.Proof.TileKernelIdeal

end
-- ==== Proof.LossKernelIdeal.lean ====
/-
  The TensorCore's call: the loss of the two result arrays, run as a one-point pipeline over whole arrays.
-/
module

public import proofs.«01_k».proof.Proof.BodyKernelIdeal
public import proofs.«01_k».proof.Proof.Gen.KernelIdeal.Launch
public import proofs.«01_k».proof.Proof.Gen.KernelIdeal.Points
public import Idealize.ShloMosaic.Lib.Pipeline.ValueKit
public import Idealize.ShloMosaic.Lib.Pipeline.RegionArrays

@[expose] public section

noncomputable section

namespace Cert.Proof.TileKernelIdeal

open Cert.KernelIdeal Cert.KernelIdeal.Gen Cert.Proof.Accum

open Idealize.ShloMosaic Idealize.ShloMosaic.TcCoe
open Idealize.ShloMosaic.SparseCore (S V T)
open Idealize.ShloMosaic.SparseCore.Cfg (HIx Pay)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The pairs a core's waits may have recorded once the SparseCore call is over. -/
def recd (d : Dev nD) : Set (SemLoc sig × HIx 1) := {p | (K (F := F)).lev (T d, p.1) p.2 ≤ 8 * SparseCore.Cfg.Blocks.fst 1 1 1}

/-- The pipeline's proof data: the sums and the counts unchanged, the loss of them left in the result; nothing kept
    between points, nothing owed. -/
def lossDats (G0 G1 : Dev nD → Vec F S32x1280 .f32) (G2 : Dev nD → Vec F S1x1 .f32) (_ : Fin 1) (c : Dev nD) :
    Dat τ (Elt F) (HIx 1) ℕ UU ℕ cfg1 c where
  A w := match w with
    | ⟨0, _⟩ => G0 c
    | ⟨1, _⟩ => G1 c
    | ⟨2, _⟩ => G2 c
  after w _ := match w with
    | ⟨0, _⟩ => G0 c
    | ⟨1, _⟩ => G1 c
    | ⟨2, _⟩ => fun _ => k1_pay1 (G0 c) (G1 c)
  Φ _ := iprop(emp)
  q _ := fullShare
  owed _ := (K (F := F)).Otc c 1
  recorded _ := recd (F := F) c

variable (G0 G1 : Dev nD → Vec F S32x1280 .f32) (G2 : Dev nD → Vec F S1x1 .f32)

/-- The sums' staging buffer holds the sums when the body runs, -/
theorem before0 (c : Dev nD) (g : Vec F S32x1280 .f32) : (lossDats G0 G1 G2 0 c).before 0 t1_0 g = G0 c := by
  unfold Dat.before; rw [if_pos (fetch1_0 _)]
  funext x
  exact congrArg (G0 c) (funext fun a => Fin.ext (Pipeline.Window.rect_emb_val_of_index_zero win1_0 t1_0 a rfl x))

/-- and the counts' the counts. -/
theorem before1 (c : Dev nD) (g : Vec F S32x1280 .f32) : (lossDats G0 G1 G2 0 c).before 1 t1_0 g = G1 c := by
  unfold Dat.before; rw [if_pos (fetch1_1 _)]
  funext x
  exact congrArg (G1 c) (funext fun a => Fin.ext (Pipeline.Window.rect_emb_val_of_index_zero win1_1 t1_0 a rfl x))

theorem zero2 : (![0, 0] : Fin 2 → ℕ) = fun _ => 0 := by decide

/-- The body's obligation: the two arrays read whole, the loss stored in the one element of the result. -/
theorem loss_body (c : Dev nD) : BodyObligation (lossDats G0 G1 G2 0 c) (defs₀ (F := F)) 𝒱₀ none Set.univ := fun t => by
  obtain rfl := fin_N1 t
  rw [bigSep_W1, bigSep_W1]
  show iprop(iprop(emp) ∗ (lossDats G0 G1 G2 0 c).owesAt none t1_0.castSucc
      ∗ (∃ g, owns (c : Thread nD τ) (Memref.whole cc1_stg0_0) fullShare ((lossDats G0 G1 G2 0 c).before 0 t1_0 g))
      ∗ (∃ g, owns (c : Thread nD τ) (Memref.whole cc1_stg1_0) fullShare ((lossDats G0 G1 G2 0 c).before 1 t1_0 g))
      ∗ (∃ g, owns (c : Thread nD τ) (Memref.whole cc1_stg2_0) fullShare ((lossDats G0 G1 G2 0 c).before 2 t1_0 g)))
    ⊢ wp frame (wpE (defs₀ (F := F)) 𝒱₀ (c : Thread nD τ) none) Set.univ
        (cc1__loss_body (Memref.whole cc1_stg0_0) (hstage1_0 0) (Memref.whole cc1_stg1_0) (hstage1_1 0) (Memref.whole cc1_stg2_0) (hstage1_2 0))
        fun _ => iprop(iprop(emp) ∗ (lossDats G0 G1 G2 0 c).owesAt none t1_0.succ
          ∗ owns (c : Thread nD τ) (Memref.whole cc1_stg0_0) fullShare (G0 c)
          ∗ owns (c : Thread nD τ) (Memref.whole cc1_stg1_0) fullShare (G1 c)
          ∗ owns (c : Thread nD τ) (Memref.whole cc1_stg2_0) fullShare (fun _ => k1_pay1 (G0 c) (G1 c)))
  rw [cc1__loss_body_eq_skeleton]
  unfold cc1__loss_body_skel
  simp only [before0, before1, owns_whole_eq]
  iintro ⟨-, HO, ⟨%d0, %f0, %hf0, H0⟩, ⟨%d1, %f1, %hf1, H1⟩, ⟨%d2, %f2, %hf2, H2⟩⟩
  subst hf0 hf1
  ihave K0 := (show (((c : Thread nD τ).loc cc1_stg0_0) ↦{fullShare} G0 c : sProp 𝕄)
    ⊢ ((Memref.whole cc1_stg0_0 : Memref sig .tc .vmem S32x1280 .f32).view.loc (c : Thread nD τ) ↦{fullShare} G0 c) from .rfl) $$ H0
  ihave K1 := (show (((c : Thread nD τ).loc cc1_stg1_0) ↦{fullShare} G1 c : sProp 𝕄)
    ⊢ ((Memref.whole cc1_stg1_0 : Memref sig .tc .vmem S32x1280 .f32).view.loc (c : Thread nD τ) ↦{fullShare} G1 c) from .rfl) $$ H1
  ihave K2 := (show (((c : Thread nD τ).loc cc1_stg2_0) ↦{fullShare} f2 : sProp 𝕄)
    ⊢ ((Memref.whole cc1_stg2_0 : Memref sig .tc .smem S1x1 .f32).view.loc (c : Thread nD τ) ↦{fullShare} f2) from .rfl) $$ H2
  sl_exec
  have e0 : (Memref.whole cc1_stg0_0 : Memref sig .tc .vmem S32x1280 .f32).view.readAt (Elt F)
      (Rect.unit (s := S32x1280) ![0, 0] S32x1280.size inb_S32x1280_S32x1280_0_0).toLoadRect (G0 c) = G0 c :=
    Memref.readAt_unit_zero (Elt F) cc1_stg0_0 zero2 inb_S32x1280_S32x1280_0_0 (G0 c)
  have e1 : (Memref.whole cc1_stg1_0 : Memref sig .tc .vmem S32x1280 .f32).view.readAt (Elt F)
      (Rect.unit (s := S32x1280) ![0, 0] S32x1280.size inb_S32x1280_S32x1280_0_0).toLoadRect (G1 c) = G1 c :=
    Memref.readAt_unit_zero (Elt F) cc1_stg1_0 zero2 inb_S32x1280_S32x1280_0_0 (G1 c)
  iapply (le_wp_ret _ _)
  isplitr; · iempintro
  isplitl [HO]; · iexact HO
  isplitl [K0]; · iexists (G0 c); isplitr; · ipureintro; rfl
                  iexact K0
  isplitl [K1]; · iexists (G1 c); isplitr; · ipureintro; rfl
                  iexact K1
  iexists _; isplitr; swap; · iexact K2
  ipureintro
  refine (Memref.write_access_unit_zero_univ (Elt F) cc1_stg2_0 zero2 inb_S1x1_S1x1_0_0 f2 _).trans ?_
  funext x
  exact congrArg₂ k1_pay1 e0 e1

/-- After the pipeline the result holds the loss, -/
theorem loss_final (c : Dev nD) : (lossDats G0 G1 G2 0 c).arrAt 2 cfg1.N = (fun _ => k1_pay1 (G0 c) (G1 c) : Vec F S1x1 .f32) :=
  (lossDats G0 G1 G2 0 c).arrAt_eq_of_after_last 2 t1_0 (by decide +kernel) _ (fun _ => rfl)

/-- and the sums and the counts are as they were. -/
theorem loss_in0 (c : Dev nD) (n : ℕ) : (lossDats G0 G1 G2 0 c).arrAt 0 n = G0 c := (lossDats G0 G1 G2 0 c).arrAt_in 0 rfl n
theorem loss_in1 (c : Dev nD) (n : ℕ) : (lossDats G0 G1 G2 0 c).arrAt 1 n = G1 c := (lossDats G0 G1 G2 0 c).arrAt_in 1 rfl n

/-- The prefetched tables' contents: no table. -/
abbrev adm : (p : Fin 1) → (pcfgs (F := F) p).Adm := fun p => (cfgs p).toPCfg_adm

/-- The three arrays at given contents. -/
def arrs (c : Dev nD) (g0 g1 : Vec F S32x1280 .f32) (g2 : Vec F S1x1 .f32) : sProp 𝕄 :=
  iprop(((c : Thread nD τ).loc main_v4_0 ↦{fullShare} g0) ∗ ((c : Thread nD τ).loc main_v4_1 ↦{fullShare} g1)
    ∗ ((c : Thread nD τ).loc main_v5 ↦{fullShare} g2))

/-- They are the pipeline's arrays. -/
theorem arrays_arrs (c : Dev nD) (G : (w : Fin cfg1.W) → Buf (Elt F) ((cfg1.win w).arr.view.loc (c : Thread nD τ))) :
    ((lossDats G0 G1 G2 0 c).arrays G : sProp 𝕄) = arrs c (G 0) (G 1) (G 2) := by
  rw [Pipeline.arrays_eq cfgs (lossDats G0 G1 G2) 0 c arr_whole1 ((lossDats G0 G1 G2 0 c).share_full fun _ => rfl) G, bigSep_W1]
  rfl

/-- What the core holds of its `owes` between the two calls' ends. -/
def owesTC (c : Dev nD) : sProp 𝕄 :=
  iprop(∃ W, ⌜(K (F := F)).WBelow (T c) W (8 * SparseCore.Cfg.Blocks.fst 1 1 1)⌝ ∗ owes (T c) ((K (F := F)).Otc c 1) W)

/-- The region: entered from the three arrays and the core's `owes`, left with the loss in the third. -/
def lossReg : Pipeline.RegionSeg (pcfgs (F := F)) adm (lossDats G0 G1 G2) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (loss_body G0 G1 G2 c).loose
  hwaits := Pipeline.hwaits_of_owed_zero _ _ _ _ _ _ 0 fun c _ => (K (F := F)).Otc_end c le_rfl
  pre c := iprop(arrs c (G0 c) (G1 c) (G2 c) ∗ owesTC (F := F) c)
  post c := iprop(arrs c (G0 c) (G1 c) (fun _ => k1_pay1 (G0 c) (G1 c)) ∗ owesTC (F := F) c)
  X c := iprop(emp)
  Y c := iprop(emp)
  Z c := iprop(emp)
  hentry c := by
    rw [Pipeline.ownSems0_none, Pipeline.prefHeld_of_none _ rfl, arrays_arrs]
    iintro ⟨⟨Ha, HO⟩, -, -⟩
    imodintro
    isplitl [Ha]; · iexact Ha
    isplitr; · iempintro
    isplitl [HO]
    · unfold owesTC Pipeline.Dat.owesAt Pipeline.owesWithin Pipeline.Dat.bound
      icases HO with ⟨%W, %hW, HO⟩; iexists W; isplitr
      · ipureintro; exact fun p hp => Or.inl (hW p hp)
      iexact HO
    isplitr <;> iempintro
  hin c := by
    rw [scopedRest1_eq]
    iintro ⟨-, -, -⟩; iempintro
  hout c := by
    rw [Pipeline.ownSems0_none, scopedRest1_eq]
    iintro -
    isplitr; · iempintro
    isplitr <;> iempintro
  hexit c := by
    rw [arrays_arrs, loss_in0, loss_in1, loss_final]
    iintro ⟨Ha, HO, -, -⟩
    imodintro
    isplitl [Ha]; · iexact Ha
    unfold owesTC Pipeline.Dat.owesAt Pipeline.owesWithin Pipeline.Dat.bound
    icases HO with ⟨%W, %hW, HO⟩; iexists W; isplitr
    · ipureintro; intro p hp
      rcases hW hp with h | ⟨w, s, rfl⟩
      · exact h
      · exact Nat.zero_le _
    iexact HO

end Cert.Proof.TileKernelIdeal

end
-- ==== Proof.LaunchKernelIdeal.lean ====
/-
  The program's launch: the thirty-two tiles' tasks dealt and joined, the TensorCore's @main around them, and the run
  of the whole program with the value of its result.
-/
module

public import proofs.«01_k».proof.Proof.LossKernelIdeal

@[expose] public section

noncomputable section

namespace Cert.Proof.TileKernelIdeal

open Cert.KernelIdeal Cert.KernelIdeal.Gen Cert.Proof.Accum

open Idealize.ShloMosaic
open Idealize.ShloMosaic.SparseCore (S V)
open Idealize.ShloMosaic.SparseCore.Cfg (HIx Pay ownBufs ownSems0 ownCells ownRefs mem_ownCells mem_ownRefs)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Where the handshakes' and the pipeline's ghost states sit. -/
abbrev EH : Emb UH (MT nD τ sig (HIx 1) (Elt F) ℕ UU ℕ) := embL
def EP : Emb UP (MT nD τ sig (HIx 1) (Elt F) ℕ UU ℕ) := (Emb.inl : Emb UP (UP × Counters)).trans embR

instance EP_lands : (EP (F := F)).LandsIn (upEmb : UEmb _ 𝕄) := by unfold EP embR; infer_instance

omit [FloatOps F] in
/-- Separating conjunctions regrouped, as an equation. -/
theorem regroup (A B C : sProp 𝕄) : iprop((A ∗ B) ∗ C) = iprop(A ∗ B ∗ C) := equiv_iff.mp ⟨BI.sep_assoc, BI.sep_assoc'⟩

/-! ## The arrays as @main holds them -/

variable (m : (ℓ : Loc nD τ sig) → Buf (Elt F) ℓ) (ρ : Dev nD → PrngReg)

/-- The features and the labels laid out flat. -/
def Y0 (d : Dev nD) : Vec F S51380224 .f32 :=
  shapeCast S51380224 (m ((SparseCore.T d).loc main_arg0) : Vec F S32x32x224x224 .f32) shapeCasts_S32x32x224x224_S51380224
def Y1 (d : Dev nD) : Vec F S51380224 .f32 :=
  shapeCast S51380224 (m ((SparseCore.T d).loc main_arg1) : Vec F S32x32x224x224 .f32) shapeCasts_S32x32x224x224_S51380224
def Y2 (d : Dev nD) : Vec F S1605632 .i32 :=
  shapeCast S1605632 (m ((SparseCore.T d).loc main_arg2) : Vec F S32x224x224 .i32) shapeCasts_S32x224x224_S1605632
def Y3 (d : Dev nD) : Vec F S1605632 .i32 :=
  shapeCast S1605632 (m ((SparseCore.T d).loc main_arg3) : Vec F S32x224x224 .i32) shapeCasts_S32x224x224_S1605632

/-- What the tiles make of them, and the loss. -/
def sumV (d : Dev nD) : Vec F S32x1280 .f32 := sumArr (Y0 m d) (Y1 m d) (Y2 m d) (Y3 m d)
def cntV (d : Dev nD) : Vec F S32x1280 .f32 := cntArr (F := F) (Y2 m d) (Y3 m d)
def lossV (d : Dev nD) : F .f32 := k1_pay1 (sumV m d) (cntV m d)

/-- Every label is below nineteen. -/
def LabelsOK : Prop := ∀ d : Dev nD, Small (F := F) (Y2 m d) ∧ Small (F := F) (Y3 m d)

/-! ## What a tile is handed -/

/-- The read share of tile `w`. -/
def tk (w : ℕ) : PosShare TreeShare := Transfers.shareTokN fullShare w

/-- A tile's part, seen by the TensorCore: a read share of each input, its row of each result. -/
def part (d : Dev nD) (f0 f1 : Vec F S32x1280 .f32) (w : ℕ) : sProp 𝕄 :=
  iprop(((SparseCore.T d).loc main_v0 ↦{tk w} Y0 m d) ∗ ((SparseCore.T d).loc main_v1 ↦{tk w} Y1 m d)
    ∗ ((SparseCore.T d).loc main_v2 ↦{tk w} Y2 m d) ∗ ((SparseCore.T d).loc main_v3 ↦{tk w} Y3 m d)
    ∗ ((SparseCore.T d).loc main_v4_0 ↦[rowSet w]{fullShare} f0) ∗ ((SparseCore.T d).loc main_v4_1 ↦[rowSet w]{fullShare} f1))

instance part_storable (d : Dev nD) (f0 f1 : Vec F S32x1280 .f32) (w : ℕ) : BI.Storable (upEmb : UEmb _ 𝕄) (part m d f0 f1 w) := by
  unfold part; infer_instance

/-- The same seen by the tile. -/
theorem part_tile (d : Dev nD) (f0 f1 : Vec F S32x1280 .f32) (L : grid0.Coords) :
    part m d f0 f1 (wid L) = iprop(hFs d L (tk (wid L)) (Y0 m d) ∗ hFt d L (tk (wid L)) (Y1 m d)
      ∗ hLs d L (tk (wid L)) (Y2 m d) ∗ hLt d L (tk (wid L)) (Y3 m d) ∗ rS d L f0 ∗ rC d L f1) := by
  unfold rS rC; rw [set_rowS, set_rowC]; rfl

/-- Before the call the results hold what they held at launch; after it, the sums and the counts. -/
def before (d : Dev nD) (w : ℕ) : sProp 𝕄 := part m d (m ((SparseCore.T d).loc main_v4_0)) (m ((SparseCore.T d).loc main_v4_1)) w
def after (d : Dev nD) (w : ℕ) : sProp 𝕄 := part m d (sumV m d) (cntV m d) w

instance before_storable (d : Dev nD) (w : ℕ) : BI.Storable (upEmb : UEmb _ 𝕄) (before m d w) := by unfold before; infer_instance
instance after_storable (d : Dev nD) (w : ℕ) : BI.Storable (upEmb : UEmb _ 𝕄) (after m d w) := by unfold after; infer_instance

/-- The payloads of the call: to SparseCore `c`, the parts of its sixteen tiles. -/
def P : (K (F := F)).Pay (nD := nD) (Val := Elt F) (Name := ℕ) (U := UU) where
  st := fun q d c => bigSep Finset.univ fun i : Fin ((K (F := F)).nSub q) => before m d (2 * i.val + c.val)
  dn := fun q d c => bigSep Finset.univ fun i : Fin ((K (F := F)).nSub q) => after m d (2 * i.val + c.val)
  go := fun _ d c i => before m d (2 * i.val + c.val)
  td := fun _ d c i => after m d (2 * i.val + c.val)
  x := fun _ _ => iprop(emp)

instance P_storable : (P (F := F) m).IsStorable where
  st q d c := (inferInstance : BI.Storable (upEmb : UEmb _ 𝕄) (bigSep Finset.univ fun i : Fin ((K (F := F)).nSub q) => before m d (2 * i.val + c.val)))
  dn q d c := (inferInstance : BI.Storable (upEmb : UEmb _ 𝕄) (bigSep Finset.univ fun i : Fin ((K (F := F)).nSub q) => after m d (2 * i.val + c.val)))
  go _ d c i := (inferInstance : BI.Storable (upEmb : UEmb _ 𝕄) (before m d (2 * i.val + c.val)))
  td _ d c i := (inferInstance : BI.Storable (upEmb : UEmb _ 𝕄) (after m d (2 * i.val + c.val)))

/-- A SparseCore's payload is its tiles'. -/
theorem vecSplit : (K (F := F)).VecSplit' (P m) 0 := by
  intro d c
  show (bigSep Finset.univ fun i : Fin ((K (F := F)).nSub 0) => before m d (2 * i.val + c.val)) ⊢ |={Set.univ}=> iprop(
      (bigSep Finset.univ fun i : Fin ((K (F := F)).nSub 0) => before m d (2 * i.val + c.val))
      ∗ ((bigSep Finset.univ fun i : Fin ((K (F := F)).nSub 0) => after m d (2 * i.val + c.val))
          -∗ bigSep Finset.univ fun i : Fin ((K (F := F)).nSub 0) => after m d (2 * i.val + c.val)))
  iintro H; imodintro
  isplitl [H]; · iexact H
  iintro H; iexact H

/-! ## A tile's scoped semaphores and scratch -/

section Tile

variable (d : Dev nD) (L : grid0.Coords)

omit [FloatOps F] in
theorem sem_mem (s : DmaSem sig) (h : (SemLoc.dma s : SemLoc sig).isScoped .scVector = true) :
    ((V d (cV L) (jV L), SemLoc.dma s) : GSem nD τ sig) ∈ ownCells (V d (cV L) (jV L)) := mem_ownCells.mpr ⟨rfl, h⟩

omit [FloatOps F] in
theorem sem_ne {s t : DmaSem sig} (h : s ≠ t) :
    ((V d (cV L) (jV L), SemLoc.dma s) : GSem nD τ sig) ≠ (V d (cV L) (jV L), SemLoc.dma t) :=
  fun e => h (SemLoc.dma.inj (Prod.mk.inj e).2)

/-- The tile's semaphores that the kernel waits on, at zero. -/
def sems : sProp 𝕄 :=
  iprop(semVal (V d (cV L) (jV L), SemLoc.dma cc0_scoped0.sem) 0 ∗ semVal (V d (cV L) (jV L), SemLoc.dma cc0_scoped1.sem) 0
    ∗ semVal (V d (cV L) (jV L), SemLoc.dma cc0_scoped2.sem) 0 ∗ semVal (V d (cV L) (jV L), SemLoc.dma cc0_scoped3.sem) 0
    ∗ semVal (V d (cV L) (jV L), SemLoc.dma cc0_scoped4.sem) 0 ∗ semVal (V d (cV L) (jV L), SemLoc.dma cc0_scoped5.sem) 0)

/-- They are among the tile's own. -/
theorem sems_out : ∃ R : sProp 𝕄, (ownSems0 (V d (cV L) (jV L)) : sProp 𝕄) = iprop(sems (F := F) d L ∗ R) := by
  refine ⟨bigSep (((((((ownCells (V d (cV L) (jV L))).erase (V d (cV L) (jV L), SemLoc.dma cc0_scoped0.sem)).erase (V d (cV L) (jV L), SemLoc.dma cc0_scoped1.sem)).erase
    (V d (cV L) (jV L), SemLoc.dma cc0_scoped2.sem)).erase (V d (cV L) (jV L), SemLoc.dma cc0_scoped3.sem)).erase
    (V d (cV L) (jV L), SemLoc.dma cc0_scoped4.sem)).erase (V d (cV L) (jV L), SemLoc.dma cc0_scoped5.sem)) fun g => semVal g 0, ?_⟩
  have h0 := sem_mem d L cc0_scoped0.sem (by decide)
  have h1 := sem_mem d L cc0_scoped1.sem (by decide)
  have h2 := sem_mem d L cc0_scoped2.sem (by decide)
  have h3 := sem_mem d L cc0_scoped3.sem (by decide)
  have h4 := sem_mem d L cc0_scoped4.sem (by decide)
  have h5 := sem_mem d L cc0_scoped5.sem (by decide)
  have e1 := Finset.mem_erase.mpr ⟨sem_ne d L (show cc0_scoped1.sem ≠ cc0_scoped0.sem by decide), h1⟩
  have e2 := Finset.mem_erase.mpr ⟨sem_ne d L (show cc0_scoped2.sem ≠ cc0_scoped1.sem by decide),
    Finset.mem_erase.mpr ⟨sem_ne d L (show cc0_scoped2.sem ≠ cc0_scoped0.sem by decide), h2⟩⟩
  have e3 := Finset.mem_erase.mpr ⟨sem_ne d L (show cc0_scoped3.sem ≠ cc0_scoped2.sem by decide),
    Finset.mem_erase.mpr ⟨sem_ne d L (show cc0_scoped3.sem ≠ cc0_scoped1.sem by decide),
      Finset.mem_erase.mpr ⟨sem_ne d L (show cc0_scoped3.sem ≠ cc0_scoped0.sem by decide), h3⟩⟩⟩
  have e4 := Finset.mem_erase.mpr ⟨sem_ne d L (show cc0_scoped4.sem ≠ cc0_scoped3.sem by decide),
    Finset.mem_erase.mpr ⟨sem_ne d L (show cc0_scoped4.sem ≠ cc0_scoped2.sem by decide),
      Finset.mem_erase.mpr ⟨sem_ne d L (show cc0_scoped4.sem ≠ cc0_scoped1.sem by decide),
        Finset.mem_erase.mpr ⟨sem_ne d L (show cc0_scoped4.sem ≠ cc0_scoped0.sem by decide), h4⟩⟩⟩⟩
  have e5 := Finset.mem_erase.mpr ⟨sem_ne d L (show cc0_scoped5.sem ≠ cc0_scoped4.sem by decide),
    Finset.mem_erase.mpr ⟨sem_ne d L (show cc0_scoped5.sem ≠ cc0_scoped3.sem by decide),
      Finset.mem_erase.mpr ⟨sem_ne d L (show cc0_scoped5.sem ≠ cc0_scoped2.sem by decide),
        Finset.mem_erase.mpr ⟨sem_ne d L (show cc0_scoped5.sem ≠ cc0_scoped1.sem by decide),
          Finset.mem_erase.mpr ⟨sem_ne d L (show cc0_scoped5.sem ≠ cc0_scoped0.sem by decide), h5⟩⟩⟩⟩⟩
  unfold ownSems0 sems
  rw [SparseCore.bigSep_erase' h0, SparseCore.bigSep_erase' e1, SparseCore.bigSep_erase' e2, SparseCore.bigSep_erase' e3,
    SparseCore.bigSep_erase' e4, SparseCore.bigSep_erase' e5]
  simp only [regroup]

omit [FloatOps F] in
theorem ref_mem (b : Ref sig .scVector) (h : ((Proc.scVector (cV L) (jV L)).devRef b : DevRef τ sig).owner = Owner.proc (.scVector (cV L) (jV L))) :
    ((Proc.scVector (cV L) (jV L)).devRef b : DevRef τ sig) ∈ ownRefs (τ := τ) (sig := sig) (.scVector (cV L) (jV L)) := SparseCore.Cfg.mem_ownRefs_of_owner h

omit [FloatOps F] in
theorem ref_ne {a b : Ref sig .scVector} (h : a ≠ b) :
    ((Proc.scVector (cV L) (jV L)).devRef a : DevRef τ sig) ≠ (Proc.scVector (cV L) (jV L)).devRef b :=
  fun e => h (Proc.devRef_injective _ e)

/-- The tile's scratch arrays, at some contents. -/
def scratch : sProp 𝕄 := iprop((∃ g, bLab d L g) ∗ (∃ g, bFea d L g) ∗ (∃ g, bSum d L g) ∗ (∃ g, bCnt d L g))

omit [FloatOps F] in
/-- They are among the tile's own. -/
theorem scratch_out : ∃ R : sProp 𝕄, (ownBufs (V d (cV L) (jV L)) : sProp 𝕄) = iprop(scratch (F := F) d L ∗ R) := by
  refine ⟨bigSep (((((ownRefs (τ := τ) (sig := sig) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)) fun b => iprop(∃ f, ((d, b) : Loc nD τ sig) ↦{fullShare} f), ?_⟩
  have h0 := ref_mem L cc0_scratch0 rfl
  have e1 := Finset.mem_erase.mpr ⟨ref_ne L (show (cc0_scratch1 : Ref sig .scVector) ≠ cc0_scratch0 by decide), ref_mem L cc0_scratch1 rfl⟩
  have e2 := Finset.mem_erase.mpr ⟨ref_ne L (show (cc0_scratch2 : Ref sig .scVector) ≠ cc0_scratch1 by decide),
    Finset.mem_erase.mpr ⟨ref_ne L (show (cc0_scratch2 : Ref sig .scVector) ≠ cc0_scratch0 by decide), ref_mem L cc0_scratch2 rfl⟩⟩
  have e3 := Finset.mem_erase.mpr ⟨ref_ne L (show (cc0_scratch3 : Ref sig .scVector) ≠ cc0_scratch2 by decide),
    Finset.mem_erase.mpr ⟨ref_ne L (show (cc0_scratch3 : Ref sig .scVector) ≠ cc0_scratch1 by decide),
      Finset.mem_erase.mpr ⟨ref_ne L (show (cc0_scratch3 : Ref sig .scVector) ≠ cc0_scratch0 by decide), ref_mem L cc0_scratch3 rfl⟩⟩⟩
  unfold ownBufs scratch
  rw [SparseCore.bigSep_erase' h0, SparseCore.bigSep_erase' e1, SparseCore.bigSep_erase' e2, SparseCore.bigSep_erase' e3]
  simp only [regroup]
  rfl

/-- A tile's task, from its part and its own scratch and semaphores: its rows of the results come back written. -/
theorem tile_body (hF : (K (F := F)).Facts) (hpre : LabelsOK (F := F) m) (O : CellTallies nD τ sig (HIx 1)) (W : Waits sig (HIx 1)) (hO : ∀ g, O g none = 0) :
    iprop(levAts (K (F := F)).L (K (F := F)).lev ∗ emp ∗ before m d (wid L) ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L (Memref.whole main_v0_scv) (Memref.isWhole_whole _) (Memref.whole main_v1_scv) (Memref.isWhole_whole _)
            (Memref.whole main_v2_scv) (Memref.isWhole_whole _) (Memref.whole main_v3_scv) (Memref.isWhole_whole _)
            (Memref.whole main_v4_0_scv) (Memref.isWhole_whole _) (Memref.whole main_v4_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scoped0 cc0_scoped1 cc0_scoped2 cc0_scoped3 cc0_scoped4 cc0_scoped5)
          fun _ => iprop(after m d (wid L) ∗ scopedBufs (V d (cV L) (jV L)) ∗ scopedSems0 (V d (cV L) (jV L))
            ∗ ∃ W', ⌜∀ p ∈ W', p ∈ W ∨ p.2 = none⌝ ∗ owes (V d (cV L) (jV L)) O W') := by
  obtain ⟨R, hR⟩ := sems_out (F := F) d L
  obtain ⟨R', hR'⟩ := scratch_out (F := F) d L
  rw [(K (F := F)).scopedBufs_V hF d (cV L) (jV L), SparseCore.Cfg.scopedSems0_V (Val := Elt F) d (cV L) (jV L), hR, hR']
  unfold before after
  rw [part_tile, part_tile]
  unfold sems scratch
  iintro ⟨#Hlv, -, ⟨H0, H1, H2, H3, Hr0, Hr1⟩, ⟨⟨Ha, Hb, Hc, Hd⟩, HR'⟩, ⟨Hsm, HR⟩, HO⟩
  ihave Hmw := ((K (F := F)).mayWaits_none (thr := V d (cV L) (jV L)) hO) $$ Hlv
  ihave Hw := (body d L (tk (wid L)) (Y2 m d) (Y3 m d) (hpre d).1 (hpre d).2 (Y0 m d) (Y1 m d) (m ((SparseCore.T d).loc main_v4_0))
      (m ((SparseCore.T d).loc main_v4_1)) O W) $$ [Hmw HO H0 H1 H2 H3 Hr0 Hr1 Hsm Ha Hb Hc Hd]
  · unfold owed
    isplitl [Hmw HO]
    · isplitl [Hmw]; · iexact Hmw
      iexists W; isplitr
      · ipureintro; exact fun p hp => .inl hp
      iexact HO
    isplitl [H0]; · iexact H0
    isplitl [H1]; · iexact H1
    isplitl [H2]; · iexact H2
    isplitl [H3]; · iexact H3
    isplitl [Hr0]; · iexact Hr0
    isplitl [Hr1]; · iexact Hr1
    isplitl [Hsm]; · iexact Hsm
    isplitl [Ha]; · iexact Ha
    isplitl [Hb]; · iexact Hb
    isplitl [Hc]; · iexact Hc
    iexact Hd
  iapply wp_wand_r
  isplitl [Hw]; · iexact Hw
  unfold owed
  iintro %r ⟨⟨-, HO⟩, H0, H1, H2, H3, Hr0, Hr1, Hsm, Ha, Hb, Hc, Hd⟩
  isplitl [H0 H1 H2 H3 Hr0 Hr1]
  · isplitl [H0]; · iexact H0
    isplitl [H1]; · iexact H1
    isplitl [H2]; · iexact H2
    isplitl [H3]; · iexact H3
    isplitl [Hr0]; · iexact Hr0
    iexact Hr1
  isplitl [Ha Hb Hc Hd HR']
  · isplitr [HR']
    · isplitl [Ha]; · iexact Ha
      isplitl [Hb]; · iexact Hb
      isplitl [Hc]; · iexact Hc
      iexact Hd
    iexact HR'
  isplitl [Hsm HR]
  · isplitl [Hsm]; · iexact Hsm
    iexact HR
  iexact HO

end Tile

/-! ## The launch's obligation about a tile -/

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          (Memref.whole main_v0_scv) (Memref.isWhole_whole _) (Memref.whole main_v1_scv) (Memref.isWhole_whole _)
          (Memref.whole main_v2_scv) (Memref.isWhole_whole _) (Memref.whole main_v3_scv) (Memref.isWhole_whole _)
          (Memref.whole main_v4_0_scv) (Memref.isWhole_whole _) (Memref.whole main_v4_1_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scoped0 cc0_scoped1 cc0_scoped2 cc0_scoped3 cc0_scoped4 cc0_scoped5) ⟨⟩ c s := rfl

/-- Waits recorded by the task only are waits recorded by the task or the call. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; intro p hp; exact (hW' p hp).elim .inl fun e => .inr (.inl e)
  · iexact HO

theorem tileObl (hF : (K (F := F)).Facts) (hpre : LabelsOK (F := F) m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => waits_weaken)

end Cert.Proof.TileKernelIdeal

end
-- ==== Proof.MainKernelIdeal.lean ====
/-
  The program's @main on the TensorCore, and the run of the whole program with the value of its result.
-/
module

public import proofs.«01_k».proof.Proof.LaunchKernelIdeal

@[expose] public section

noncomputable section

namespace Cert.Proof.TileKernelIdeal

open Cert.KernelIdeal Cert.KernelIdeal.Gen Cert.Proof.Accum

open Idealize.ShloMosaic
open Idealize.ShloMosaic.SparseCore (S V)
open Idealize.ShloMosaic.SparseCore.Cfg (HIx Pay ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type} [FloatOps F]

local notation "𝕄" => MT nD τ sig (HIx 1) (Elt F) ℕ UU ℕ

variable (m : (ℓ : Loc nD τ sig) → Buf (Elt F) ℓ) (ρ : Dev nD → PrngReg)

/-! ## The thirty-two parts dealt and joined -/

/-- A tile's number from its SparseCore and its place there. -/
def tileNo : Fin 2 × Fin 16 ≃ Fin 32 where
  toFun p := ⟨2 * p.2.val + p.1.val, by omega⟩
  invFun k := (⟨k.val % 2, by omega⟩, ⟨k.val / 2, by omega⟩)
  left_inv p := by ext <;> simp <;> omega
  right_inv k := by ext; simp; omega

omit [FloatOps F] in
/-- Both SparseCores' sixteen tiles are all thirty-two. -/
theorem tiles_all (Φ : ℕ → sProp 𝕄) :
    (bigSep Finset.univ fun c : Fin 2 => bigSep Finset.univ fun i : Fin 16 => Φ (2 * i.val + c.val)) = bigSep Finset.univ fun k : Fin 32 => Φ k.val := by
  rw [bigSep_univ_equiv tileNo fun k : Fin 32 => Φ k.val, bigSep_univ_prod]
  rfl

theorem rows_apart : ∀ i ∈ (Finset.univ : Finset (Fin 32)), ∀ j ∈ (Finset.univ : Finset (Fin 32)), i ≠ j → Disjoint (rowSet i.val) (rowSet j.val) := by
  intro i _ j _ h
  refine Finset.disjoint_left.mpr fun x hi hj => h (Fin.ext ?_)
  exact (Finset.mem_filter.mp hi).2.symm.trans (Finset.mem_filter.mp hj).2

theorem rows_all : (Finset.univ : Finset (Fin 32)).biUnion (fun i => rowSet i.val) = Finset.univ :=
  Finset.eq_univ_iff_forall.mpr fun x => Finset.mem_biUnion.mpr ⟨(⟨(x 0).val, (x 0).isLt⟩ : Fin 32), Finset.mem_univ _,
    Finset.mem_filter.mpr ⟨Finset.mem_univ _, rfl⟩⟩

/-- A result array whole is its thirty-two rows. -/
theorem rows_v4_0 (d : Dev nD) (f : Vec F S32x1280 .f32) :
    ((SparseCore.T d).loc main_v4_0 ↦{fullShare} f : sProp 𝕄) = bigSep Finset.univ fun k : Fin 32 => (SparseCore.T d).loc main_v4_0 ↦[rowSet k.val]{fullShare} f := by
  rw [← pointsTo_biUnion Finset.univ (ℓ := (SparseCore.T d).loc main_v4_0) (fun k : Fin 32 => rowSet k.val) rows_apart, rows_all]; try rfl
theorem rows_v4_1 (d : Dev nD) (f : Vec F S32x1280 .f32) :
    ((SparseCore.T d).loc main_v4_1 ↦{fullShare} f : sProp 𝕄) = bigSep Finset.univ fun k : Fin 32 => (SparseCore.T d).loc main_v4_1 ↦[rowSet k.val]{fullShare} f := by
  rw [← pointsTo_biUnion Finset.univ (ℓ := (SparseCore.T d).loc main_v4_1) (fun k : Fin 32 => rowSet k.val) rows_apart, rows_all]; try rfl

/-- What of the inputs stays with the TensorCore meanwhile. -/
def kept (d : Dev nD) : sProp 𝕄 :=
  iprop(((SparseCore.T d).loc main_v0 ↦{Transfers.shareDrop fullShare 32} Y0 m d) ∗ ((SparseCore.T d).loc main_v1 ↦{Transfers.shareDrop fullShare 32} Y1 m d)
    ∗ ((SparseCore.T d).loc main_v2 ↦{Transfers.shareDrop fullShare 32} Y2 m d) ∗ ((SparseCore.T d).loc main_v3 ↦{Transfers.shareDrop fullShare 32} Y3 m d))

/-- The four inputs and the two results, whole. -/
def six (d : Dev nD) (f0 f1 : Vec F S32x1280 .f32) : sProp 𝕄 :=
  iprop(((SparseCore.T d).loc main_v0 ↦{fullShare} Y0 m d) ∗ ((SparseCore.T d).loc main_v1 ↦{fullShare} Y1 m d)
    ∗ ((SparseCore.T d).loc main_v2 ↦{fullShare} Y2 m d) ∗ ((SparseCore.T d).loc main_v3 ↦{fullShare} Y3 m d)
    ∗ ((SparseCore.T d).loc main_v4_0 ↦{fullShare} f0) ∗ ((SparseCore.T d).loc main_v4_1 ↦{fullShare} f1))

theorem parts_out (d : Dev nD) (f0 f1 : Vec F S32x1280 .f32) :
    six m d f0 f1 ⊢ iprop(kept m d ∗ bigSep Finset.univ fun k : Fin 32 => part m d f0 f1 k.val) := by
  unfold six kept part tk
  rw [rows_v4_0, rows_v4_1]
  simp only [bigSep_sep']
  iintro ⟨H0, H1, H2, H3, Hr0, Hr1⟩
  ihave K0 := (Transfers.pointsTo_toks_split fullShare 32) $$ H0
  ihave K1 := (Transfers.pointsTo_toks_split fullShare 32) $$ H1
  ihave K2 := (Transfers.pointsTo_toks_split fullShare 32) $$ H2
  ihave K3 := (Transfers.pointsTo_toks_split fullShare 32) $$ H3
  icases K0 with ⟨D0, T0⟩
  icases K1 with ⟨D1, T1⟩
  icases K2 with ⟨D2, T2⟩
  icases K3 with ⟨D3, T3⟩
  isplitl [D0 D1 D2 D3]
  · isplitl [D0]; · iexact D0
    isplitl [D1]; · iexact D1
    isplitl [D2]; · iexact D2
    iexact D3
  isplitl [T0]; · iexact T0
  isplitl [T1]; · iexact T1
  isplitl [T2]; · iexact T2
  isplitl [T3]; · iexact T3
  isplitl [Hr0]; · iexact Hr0
  iexact Hr1

theorem parts_in (d : Dev nD) (f0 f1 : Vec F S32x1280 .f32) :
    iprop(kept m d ∗ bigSep Finset.univ fun k : Fin 32 => part m d f0 f1 k.val) ⊢ six m d f0 f1 := by
  unfold six kept part tk
  rw [rows_v4_0, rows_v4_1]
  simp only [bigSep_sep']
  iintro ⟨⟨D0, D1, D2, D3⟩, T0, T1, T2, T3, Hr0, Hr1⟩
  isplitl [D0 T0]
  · iapply (Transfers.pointsTo_toks_join fullShare 32); isplitl [D0]; · iexact D0
    iexact T0
  isplitl [D1 T1]
  · iapply (Transfers.pointsTo_toks_join fullShare 32); isplitl [D1]; · iexact D1
    iexact T1
  isplitl [D2 T2]
  · iapply (Transfers.pointsTo_toks_join fullShare 32); isplitl [D2]; · iexact D2
    iexact T2
  isplitl [D3 T3]
  · iapply (Transfers.pointsTo_toks_join fullShare 32); isplitl [D3]; · iexact D3
    iexact T3
  isplitl [Hr0]; · iexact Hr0
  iexact Hr1

theorem st_all (d : Dev nD) : (bigSep Finset.univ fun c : Fin ((K (F := F)).nCore 0) => (P m).st 0 d c)
    = bigSep Finset.univ fun k : Fin 32 => before m d k.val := tiles_all (before m d)
theorem dn_all (d : Dev nD) : (bigSep Finset.univ fun c : Fin ((K (F := F)).nCore 0) => (P m).dn 0 d c)
    = bigSep Finset.univ fun k : Fin 32 => after m d k.val := tiles_all (after m d)

/-! ## @main's steps -/

/-- The arrays of @main. -/
theorem unscoped_all (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_arg2 ↦{fullShare} W main_arg2) ∗ ((SparseCore.T d).loc main_arg3 ↦{fullShare} W main_arg3)
      ∗ ((SparseCore.T d).loc main_v0 ↦{fullShare} W main_v0) ∗ ((SparseCore.T d).loc main_v1 ↦{fullShare} W main_v1)
      ∗ ((SparseCore.T d).loc main_v2 ↦{fullShare} W main_v2) ∗ ((SparseCore.T d).loc main_v3 ↦{fullShare} W main_v3)
      ∗ ((SparseCore.T d).loc main_v4_0 ↦{fullShare} W main_v4_0) ∗ ((SparseCore.T d).loc main_v4_1 ↦{fullShare} W main_v4_1)
      ∗ ((SparseCore.T d).loc main_v5 ↦{fullShare} W main_v5) ∗ (SparseCore.T d).loc main_v6 ↦{fullShare} W main_v6) := by
  unfold unscopedBufs
  rw [show (Finset.univ.filter fun b : Ref sig .tc => ¬ b.isScoped)
      = {main_arg0, main_arg1, main_arg2, main_arg3, main_v0, main_v1, main_v2, main_v3, main_v4_0, main_v4_1, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- A reshape on the TensorCore: the result holds the argument reshaped. -/
theorem reshape_step (m : (ℓ : Loc nD τ sig) → Buf (Elt F) ℓ) (d : Dev nD) (x y : Ref sig .tc) (hxy : (x : DevRef τ sig) ≠ (y : DevRef τ sig)) (he : x.ty.elt = y.ty.elt) (hn : x.ty.shape.ShapeCasts y.ty.shape)
    (hx : x.space ≠ .host ∧ (x : DevRef τ sig).isScoped = false) (hy : y.space ≠ .host ∧ (y : DevRef τ sig).isScoped = false)
    (f : Buf (Elt F) ((SparseCore.T d).loc x)) (g : Buf (Elt F) ((SparseCore.T d).loc y)) :
    (iprop(boundary (SparseCore.T d) ∗ ((SparseCore.T d).loc x ↦{fullShare} f) ∗ ((SparseCore.T d).loc y ↦{fullShare} g)) : sProp 𝕄)
      ⊢ wp frame (wpE ((K (F := F)).defs (D (F := F))) 𝒱 (SparseCore.T d) none) Set.univ
          (hlo rfl (StableHlo.reshape x y he hn hx hy) (fun _ => Prog.ret PUnit.unit))
          fun _ => iprop(boundary (SparseCore.T d) ∗ ((SparseCore.T d).loc x ↦{fullShare} f)
            ∗ ((SparseCore.T d).loc y ↦{fullShare} (show Buf (Elt F) ((SparseCore.T d).loc y) from
                fun i => he ▸ shapeCast y.ty.shape (show x.ty.shape.Idx → Elt F x.ty.elt from f) hn i))) := by
  let W : Valuation τ sig (Elt F) := Function.update (Function.update (fun b => m (d, b)) (x : DevRef τ sig) f) (y : DevRef τ sig) g
  have hWx : W (x : DevRef τ sig) = f := (Function.update_of_ne hxy _ _).trans (Function.update_self _ _ _)
  have hWy : W (y : DevRef τ sig) = g := Function.update_self _ _ _
  have hheld : ∀ V : Valuation τ sig (Elt F), (held (SparseCore.T d) {(x : DevRef τ sig), (y : DevRef τ sig)} V : sProp 𝕄)
      = iprop(((SparseCore.T d).loc x ↦{fullShare} V (x : DevRef τ sig)) ∗ ((SparseCore.T d).loc y ↦{fullShare} V (y : DevRef τ sig))) := by
    intro V; unfold held
    rw [SparseCore.bigSep_insert' (by simpa using hxy), bigSep_singleton]
  have e1 := hheld W
  rw [hWx, hWy] at e1
  have e2 := hheld ((StableHlo.reshape x y he hn hx hy : HloOp τ sig (Elt F)).result W)
  rw [StableHlo.reshape_result, HloOp.result_of_not_mem _ _ (show (x : DevRef τ sig) ∉ ({(y : DevRef τ sig)} : Finset (DevRef τ sig)) by simpa using hxy), hWx] at e2
  rw [← e1]
  iintro ⟨Hb, Hh⟩
  iapply (wp_hlo_within 𝒱 (SparseCore.T d) none Set.univ (op := StableHlo.reshape x y he hn hx hy) (S := {(x : DevRef τ sig), (y : DevRef τ sig)})
    (Finset.Subset.refl _) (V := W)) $$ [Hb Hh]
  · isplitl [Hb] <;> iassumption
  iintro ⟨Hb, Hh⟩
  rw [wp_ret]; imodintro
  isplitl [Hb]; · iexact Hb
  rw [← e2]; iexact Hh

/-- What @main on device `d` is given of the loss region's ghost state. -/
def G (d : Dev nD) : sProp 𝕄 := iprop(Pipeline.cellsGhost cfgs (EP (F := F)) 0 d ∗ Pipeline.toksInit cfgs (EP (F := F)) 0 d)

theorem reg_pre (G0 G1 : Dev nD → Vec F S32x1280 .f32) (G2 : Dev nD → Vec F S1x1 .f32) (d : Dev nD) :
    (lossReg G0 G1 G2).pre d = iprop(arrs d (G0 d) (G1 d) (G2 d) ∗ owesTC (F := F) d) := rfl
theorem reg_post (G0 G1 : Dev nD → Vec F S32x1280 .f32) (G2 : Dev nD → Vec F S1x1 .f32) (d : Dev nD) :
    (lossReg G0 G1 G2).post d = iprop(arrs d (G0 d) (G1 d) (fun _ => k1_pay1 (G0 d) (G1 d)) ∗ owesTC (F := F) d) := rfl

/-- The loss region on the TensorCore: its three arrays, the third left with the loss. -/
theorem region_step [∀ e, Nonempty (Elt F e)] (G0 G1 : Dev nD → Vec F S32x1280 .f32) (G2 : Dev nD → Vec F S1x1 .f32) (d : Dev nD) :
    (iprop(boundary (SparseCore.T d) ∗ (arrs d (G0 d) (G1 d) (G2 d) ∗ owesTC (F := F) d) ∗ levAts (K (F := F)).L (K (F := F)).lev ∗ G (F := F) d) : sProp 𝕄)
      ⊢ wp frame (wpE ((K (F := F)).defs (D (F := F))) 𝒱 (SparseCore.T d) none) Set.univ
          (Prog.lift (.customCall (SparseCore.inner (Pipeline.entry 0)) ()))
          fun _ => iprop(boundary (SparseCore.T d) ∗ arrs d (G0 d) (G1 d) (fun _ => k1_pay1 (G0 d) (G1 d)) ∗ owesTC (F := F) d) := by
  have h := Pipeline.RegionSeg.wp (pcfgs (F := F)) adm (lossDats G0 G1 G2) none cellOf_inj (EP (F := F)) defs₀ 𝒱₀ (K (F := F)).L (K (F := F)).lev
    (lossReg G0 G1 G2) d none (fun u hu => nomatch hu) .ret fun _ => iprop(boundary (SparseCore.T d) ∗ arrs d (G0 d) (G1 d) (fun _ => k1_pay1 (G0 d) (G1 d)) ∗ owesTC (F := F) d)
  have hk := (K (F := F)).wp_liftProg (D (F := F)) 𝒱 (SparseCore.T d) Set.univ none
    (.op (.customCall (Pipeline.entry 0) ()) .ret) fun _ => iprop(boundary (SparseCore.T d) ∗ arrs d (G0 d) (G1 d) (fun _ => k1_pay1 (G0 d) (G1 d)) ∗ owesTC (F := F) d)
  have h' := h.trans hk
  rw [reg_pre, reg_post] at h'
  refine BI.Entails.trans ?_ h'
  show (_ : sProp 𝕄) ⊢ _
  unfold G
  iintro ⟨Hb, Hp, Hl, Hg, Ht⟩
  isplitr [Hb Hp Hl Hg Ht]
  · iintro ⟨Hb, Hp⟩
    rw [wp_ret]; imodintro
    isplitl [Hb]; · iexact Hb
    iexact Hp
  isplitl [Hb]; · iexact Hb
  isplitl [Hp]; · iexact Hp
  isplitl [Hl]; · iexact Hl
  isplitl [Hg]; · iexact Hg
  iexact Ht

/-- The program's result: the loss, as a scalar. -/
def outV (d : Dev nD) : Vec F S_ .f32 := fun _ => lossV m d

/-- What @main leaves: the arguments at their launch contents, the result at the loss. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_v6 ↦{fullShare} outV m d))

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_all]
  simp only [main, wp_bind, wp_pure]
  iintro ⟨#Hctx, Hst, ⟨Hb, ⟨A0, A1, A2, A3, V0, V1, V2, V3, R0, R1, V5, V6⟩, Hts, -⟩, HG⟩
  iapply wp_wand_r
  isplitl [Hb A0 V0]
  · iapply (reshape_step m d main_arg0 main_v0 (by decide) rfl _ _ _ (m ((SparseCore.T d).loc main_arg0)) (m ((SparseCore.T d).loc main_v0)))
    isplitl [Hb]; · iexact Hb
    isplitl [A0]; · iexact A0
    iexact V0
  iintro %_ ⟨Hb, A0, V0⟩
  iapply wp_wand_r
  isplitl [Hb A1 V1]
  · iapply (reshape_step m d main_arg1 main_v1 (by decide) rfl _ _ _ (m ((SparseCore.T d).loc main_arg1)) (m ((SparseCore.T d).loc main_v1)))
    isplitl [Hb]; · iexact Hb
    isplitl [A1]; · iexact A1
    iexact V1
  iintro %_ ⟨Hb, A1, V1⟩
  iapply wp_wand_r
  isplitl [Hb A2 V2]
  · iapply (reshape_step m d main_arg2 main_v2 (by decide) rfl _ _ _ (m ((SparseCore.T d).loc main_arg2)) (m ((SparseCore.T d).loc main_v2)))
    isplitl [Hb]; · iexact Hb
    isplitl [A2]; · iexact A2
    iexact V2
  iintro %_ ⟨Hb, A2, V2⟩
  iapply wp_wand_r
  isplitl [Hb A3 V3]
  · iapply (reshape_step m d main_arg3 main_v3 (by decide) rfl _ _ _ (m ((SparseCore.T d).loc main_arg3)) (m ((SparseCore.T d).loc main_v3)))
    isplitl [Hb]; · iexact Hb
    isplitl [A3]; · iexact A3
    iexact V3
  iintro %_ ⟨Hb, A3, V3⟩
  -- the call: each tile its part, and the parts back
  ihave Hsix := (parts_out m d (m ((SparseCore.T d).loc main_v4_0)) (m ((SparseCore.T d).loc main_v4_1))) $$ [V0 V1 V2 V3 R0 R1]
  · unfold six
    isplitl [V0]; · iexact V0
    isplitl [V1]; · iexact V1
    isplitl [V2]; · iexact V2
    isplitl [V3]; · iexact V3
    isplitl [R0]; · iexact R0
    iexact R1
  icases Hsix with ⟨Hkept, Hparts⟩
  iapply ((K (F := F)).wp_run (D (F := F)) 𝒱 (EH := EH) (P := P m) κ d 0) $$ [Hst Hparts Hkept Hb A0 A1 A2 A3 V5 V6 Hts HG]
  isplitr; · iexact Hctx
  isplitl [Hst]; · iexact Hst
  isplitl [Hparts]
  · rw [st_all]; iexact Hparts
  iintro ⟨Hst, Hdn⟩
  ihave Hdn' := (Entails.of_eq (dn_all m d)) $$ Hdn
  ihave Hsix := (parts_in m d (sumV m d) (cntV m d)) $$ [Hkept Hdn']
  · isplitl [Hkept]; · iexact Hkept
    iexact Hdn'
  unfold six
  icases Hsix with ⟨-, -, -, -, R0, R1⟩
  -- the loss region
  unfold SparseCore.Cfg.tcSt
  icases Hst with ⟨HO, Hst⟩
  ihave Hlv := ((K (F := F)).ctx_levAts (EH := EH) (P := P m) κ) $$ Hctx
  iapply wp_wand_r
  isplitl [Hb R0 R1 V5 HO Hlv HG]
  · iapply (region_step (sumV m) (cntV m) (fun d => m ((SparseCore.T d).loc main_v5)) d)
    isplitl [Hb]; · iexact Hb
    isplitl [R0 R1 V5 HO]
    · isplitl [R0 R1 V5]
      · unfold arrs
        isplitl [R0]; · iexact R0
        isplitl [R1]; · iexact R1
        iexact V5
      unfold owesTC; iexact HO
    isplitl [Hlv]; · iexact Hlv
    iexact HG
  unfold arrs owesTC
  iintro %_ ⟨Hb, ⟨-, -, V5⟩, HO⟩
  -- the result's reshape
  iapply wp_wand_r
  isplitl [Hb V5 V6]
  · iapply (reshape_step m d main_v5 main_v6 (by decide) rfl _ _ _ (fun _ => k1_pay1 (sumV m d) (cntV m d)) (m ((SparseCore.T d).loc main_v6)))
    isplitl [Hb]; · iexact Hb
    isplitl [V5]; · iexact V5
    iexact V6
  iintro %_ ⟨Hb, -, V6⟩
  imodintro
  isplitl [HO Hst]
  · isplitl [HO]; · iexact HO
    iexact Hst
  isplitr [Hb Hts]
  · isplitl [A0]; · iexact A0
    isplitl [A1]; · iexact A1
    isplitl [A2]; · iexact A2
    isplitl [A3]; · iexact A3
    iexact V6
  isplitl [Hb] <;> iassumption

/-! ## The launch's ghost state, the final reading, and the run -/

/-- The launch element: the handshakes', the loss region's, and nothing else. -/
def u₀ : UU := (initOf (K (F := F)).hsCells (K (F := F)).hsToks,
  (initOf (Pipeline.cells cfgs cellOf_inj) (Pipeline.launchToks cfgs cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb (embR : Emb (UP × Counters) 𝕄) _ _) $$ HR
  icases H with ⟨HP, -⟩
  ihave HP := (show (BI.own (((Emb.inl : Emb UP (UP × Counters)).trans (embR : Emb (UP × Counters) 𝕄)) (initOf (Pipeline.cells cfgs cellOf_inj) (Pipeline.launchToks cfgs cellOf_inj))) : sProp 𝕄)
    ⊢ BI.own (EP (F := F) (initOf (Pipeline.cells cfgs cellOf_inj) (Pipeline.launchToks cfgs cellOf_inj))) from .rfl) $$ HP
  imod (Pipeline.fund_ghost cfgs (EP (F := F)) cellOf_inj) $$ HP with ⟨Hg, Ht⟩
  imodintro
  isplitl [HH]; · iexact HH
  isplitl [Hg Ht]
  · unfold G
    rw [bigSep_sep']
    isplitl [Hg]
    · rw [bigSep_congr fun (d : Dev nD) _ => (bigSep_univ_of_subsingleton (0 : Fin 1) (Φ := fun p => (Pipeline.cellsGhost cfgs (EP (F := F)) p d : sProp 𝕄)))]
      exact BI.Entails.refl _
    · rw [bigSep_congr fun (d : Dev nD) _ => (bigSep_univ_of_subsingleton (0 : Fin 1) (Φ := fun p => (Pipeline.toksInit cfgs (EP (F := F)) p d : sProp 𝕄)))]
      exact BI.Entails.refl _
  rw [bigSep_congr fun (thr : Thread nD τ) _ => show (bigSep Finset.univ fun q : Fin 1 => (P m).x q thr) = (iprop(emp) : sProp 𝕄) from bigSep_emp_const _,
    show (bigSep Finset.univ fun _ : Thread nD τ => iprop(emp)) = (iprop(emp) : sProp 𝕄) from bigSep_emp_const _]
  iempintro

/-- What the final state holds: the result and the arguments. -/
def fq (d : Dev nD) (s' : Phys nD τ sig (Elt F)) : Prop :=
  s'.mem.mem ((SparseCore.T d).loc main_v6) = outV m d
    ∧ s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)

/-- An array held whole is what the state has there. -/
theorem state_agree (s' : Phys nD τ sig (Elt F)) (ℓ : Loc nD τ sig) (f : Buf (Elt F) ℓ) :
    (iprop(SI s' ∗ (ℓ ↦{fullShare} f)) : sProp 𝕄) ⊢ iprop(⌜s'.mem.mem ℓ = f⌝ ∗ SI s') := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3, H6⟩, HSI⟩
  ihave H := (state_agree s' _ _) $$ [HSI H0]
  · isplitl [HSI] <;> iassumption
  icases H with ⟨%h0, HSI⟩
  ihave H := (state_agree s' _ _) $$ [HSI H1]
  · isplitl [HSI] <;> iassumption
  icases H with ⟨%h1, HSI⟩
  ihave H := (state_agree s' _ _) $$ [HSI H2]
  · isplitl [HSI] <;> iassumption
  icases H with ⟨%h2, HSI⟩
  ihave H := (state_agree s' _ _) $$ [HSI H3]
  · isplitl [HSI] <;> iassumption
  icases H with ⟨%h3, HSI⟩
  ihave H := (state_agree s' _ _) $$ [HSI H6]
  · isplitl [HSI] <;> iassumption
  icases H with ⟨%h6, HSI⟩
  ipureintro; exact ⟨h6, h0, h1, h2, h3⟩

def QC : PUnit × MemSt nD τ sig (Elt F) → Prop := fun r => (∀ c : Dev nD, r.2.mem ((SparseCore.T c).loc main_v6) = outV m c
    ∧ r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_arg3) = m ((SparseCore.T c).loc main_arg3))
  ∧ r.2.sem = fun _ => 0

/-- The whole program, run from any memory whose labels are below nineteen: it ends with the loss in its result, its
    arguments unchanged and its semaphores at zero. -/
theorem run_main [∀ e, Nonempty (Elt F e)] (hpre : LabelsOK (F := F) m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.Proof.TileKernelIdeal

end
-- ==== Proof.Centres.lean ====
/-
  Class sums, class counts, class centres and the loss, as the problem has them, over the extended reals; and that the
  reference's result is that loss.
-/
module

public import proofs.«01_k».proof.Defs
public import proofs.«01_k».proof.Proof.Gen.ReferenceIdeal.Run
public import Idealize.ShloMosaic.Lib.Pointwise

@[expose] public section

noncomputable section

namespace Cert.Proof.Centres

open Idealize.ShloMosaic Cert.ReferenceIdeal Cert.ReferenceIdeal.Gen

/-- The two constants, as their words read. -/
def eps : EReal := Ideal.ofBits .f32 0x322BCC77#32
def thirtyTwo : EReal := Ideal.ofBits .f32 0x42000000#32

/-- The label of a class. -/
abbrev lab (c : Fin 19) : BitVec 32 := BitVec.ofNat 32 c.val

/-- The number of image `b`'s pixels of class `c`. -/
def countOf (L : S32x224x224.Idx → BitVec 32) (c : Fin 19) (b : Fin 32) : EReal :=
  ∑ y : Fin 224, ∑ x : Fin 224, if L (ix3 b y x) = lab c then 1 else 0

/-- The sum of channel `h` of image `b` over its pixels of class `c`. -/
def sumOf (X : S32x32x224x224.Idx → EReal) (L : S32x224x224.Idx → BitVec 32) (c : Fin 19) (b h : Fin 32) : EReal :=
  ∑ y : Fin 224, ∑ x : Fin 224, if L (ix3 b y x) = lab c then X (ix4 b h y x) else 0

/-- The centre of class `c` in channel `h`: the mean over the images of the class's sum divided by its count (the count is that of
    the image numbered by the channel, as the problem broadcasts it). -/
def centre (X : S32x32x224x224.Idx → EReal) (L : S32x224x224.Idx → BitVec 32) (c : Fin 19) (h : Fin 32) : EReal :=
  Ideal.div (∑ b : Fin 32, Ideal.div (sumOf X L c b h) (countOf L c h + eps)) thirtyTwo

/-- The distance of the two tensors' class centres. -/
def loss (X0 X1 : S32x32x224x224.Idx → EReal) (L0 L1 : S32x224x224.Idx → BitVec 32) : EReal :=
  Ideal.sqrt (∑ c : Fin 19, ∑ h : Fin 32, (centre X0 L0 c h - centre X1 L1 c h) * (centre X0 L0 c h - centre X1 L1 c h))

/-- The reference's first sum: over the last two axes of a rank-five array, at a result index. -/
theorem sum_last_two (v : S19x32x32x224x224.Idx → EReal) (init : EReal) (j : S19x32x32.Idx) :
    Ideal.hostReduceAdd reducesTo_S19x32x32x224x224_S19x32x32_d3_4 v init j
      = init + ∑ y : Fin 224, ∑ x : Fin 224, v (ix5 (j 0) (j 1) (j 2) y x) := by
  unfold Ideal.hostReduceAdd
  congr 1
  rw [← Fintype.sum_prod_type' (f := fun (y x : Fin 224) => v (ix5 (j 0) (j 1) (j 2) y x))]
  classical
  have key := Finset.sum_filter_eq_sum_of_fiber (fun i => reducesTo_S19x32x32x224x224_S19x32x32_d3_4.drop i = j)
    (fun q : Fin 224 × Fin 224 => ix5 (j 0) (j 1) (j 2) q.1 q.2) ?_ ?_ v
  · convert key
  · intro p q e
    exact Prod.ext (congrFun e 3) (congrFun e 4)
  · intro i
    constructor
    · rintro rfl
      refine ⟨(i 3, i 4), ?_⟩
      funext a
      fin_cases a <;> rfl
    · rintro ⟨q, rfl⟩
      funext a
      fin_cases a <;> rfl

/-- The bit of an equality of words, as a number. -/
theorem mask_eq (a b : BitVec 32) : (FloatOps.uitofp .f32 (IntOp.cmpi .eq a b) : Ideal .f32) = if a = b then (1 : EReal) else 0 := by
  by_cases h : a = b
  · subst h
    have e : IntOp.cmpi .eq a a = 1#1 := by simp [IntOp.cmpi]
    rw [e, if_pos rfl]
    show (((1#1 : BitVec 1).toNat : ℝ) : EReal) = 1
    simp
  · have e : IntOp.cmpi .eq a b = 0#1 := by
      show BitVec.ofBool (a == b) = 0#1
      rw [beq_eq_false_iff_ne.mpr h]
      rfl
    rw [e, if_neg h]
    show (((0#1 : BitVec 1).toNat : ℝ) : EReal) = 0
    simp

/-- The reference's result is the loss of its arguments. -/
theorem reference_loss (m : (ℓ : Loc nD τ sig) → Buf (Elt Ideal) ℓ) (c : Dev nD) :
    Value.res_main_v47 m c = fun _ => loss (m ((c.tc : Thread nD τ).loc main_arg0)) (m ((c.tc : Thread nD τ).loc main_arg1))
      (m ((c.tc : Thread nD τ).loc main_arg2)) (m ((c.tc : Thread nD τ).loc main_arg3)) := by
  funext j
  unfold Value.res_main_v47
  pointwise
  simp only [sum_last_two]
  pointwise
  simp only [mask_eq, mul_ite, mul_one, mul_zero]
  rfl

end Cert.Proof.Centres

end
-- ==== Proof.Payload.lean ====
/-
  The kernel's loss of the two arrays of sums and counts, over the extended reals, as a sum over the 640 cells of a half row.
-/
module

public import proofs.«01_k».proof.Defs
public import proofs.«01_k».proof.Proof.Gen.KernelIdeal.Skeleton
public import Idealize.ShloMosaic.Lib.Pointwise

@[expose] public section

noncomputable section

namespace Cert.Proof.Payload

open Idealize.ShloMosaic Cert.KernelIdeal Cert.KernelIdeal.Gen

/-- A cell's centre: the images' sums added, over the images' counts added and the two constants. -/
def cell (S C : Vec Ideal S32x1280 .f32) (k : Fin 1280) : EReal :=
  Ideal.div (∑ b : Fin 32, S (ix2 b k)) ((∑ b : Fin 32, C (ix2 b k) + Ideal.ofBits .f32 0x322BCC77#32) * Ideal.ofBits .f32 0x42000000#32)

/-- A cell of the first half row and the one opposite it in the second. -/
abbrev left (k : Fin 640) : Fin 1280 := ⟨k.val, by omega⟩
abbrev right (k : Fin 640) : Fin 1280 := ⟨640 + k.val, by omega⟩

/-- The kernel's loss is the root of the sum of the squared differences of opposite cells' centres. -/
theorem kernel_loss (S C : Vec Ideal S32x1280 .f32) :
    k1_pay1 (F := Ideal) S C
      = Ideal.sqrt (∑ k : Fin 640, (cell S C (left k) - cell S C (right k)) * (cell S C (left k) - cell S C (right k))) := by
  unfold k1_pay1
  pointwise
  show Ideal.sqrt _ = _
  rw [Fin.sum_univ_one]
  rfl

end Cert.Proof.Payload

end
-- ==== Proof.Totals.lean ====
/-
  The rows of a tile over the extended reals: every cell is a sum over the pixels of one class.
-/
module

public import proofs.«01_k».proof.Proof.BodyKernelIdeal
public import Idealize.ShloMosaic.Lib.Pointwise

@[expose] public section

noncomputable section

namespace Cert.Proof.Totals

open Idealize.ShloMosaic Cert.KernelIdeal Cert.KernelIdeal.Gen Cert.Proof.Accum Cert.Proof.TileKernelIdeal

/-- A sum over `m * n` numbers, in `m` runs of `n`. -/
theorem sum_runs {M : Type} [AddCommMonoid M] (m n : ℕ) (g : ℕ → M) :
    ∑ k : Fin (m * n), g k.val = ∑ i : Fin m, ∑ j : Fin n, g (n * i.val + j.val) := by
  rw [← Fintype.sum_prod_type' (f := fun (i : Fin m) (j : Fin n) => g (n * i.val + j.val)), ← finProdFinEquiv.sum_comp]
  refine Finset.sum_congr rfl fun q _ => ?_
  congr 1
  show q.2.val + n * q.1.val = _
  omega

/-- The cell after `n` items: what it was, and the values of the items that went to it. -/
theorem acc_val (f : Vec Ideal Row .f32) (ix : ℕ → ℕ) (v : ℕ → Ideal .f32) (n : ℕ) (j : Row.Idx) :
    (acc f ix v n j : EReal) = (f j : EReal) + ∑ p ∈ Finset.range n, if (j 0).val = ix p then (v p : EReal) else 0 := by
  induction n with
  | zero => simp [acc]
  | succ n ih =>
    rw [Finset.sum_range_succ, ← add_assoc, ← ih]
    show (if (j 0).val = ix n then (acc f ix v n j : EReal) + (v n : EReal) else (acc f ix v n j : EReal)) = _
    by_cases h : (j 0).val = ix n
    · rw [if_pos h, if_pos h]
    · rw [if_neg h, if_neg h, add_zero]

/-- The cell of a row of sums after `c` channels. -/
theorem sums_val (f : Vec Ideal Row .f32) (base : ℕ) (A : Vec Ideal ⟨1, ![51380224]⟩ .f32) (L : Vec Ideal ⟨1, ![1605632]⟩ .i32) (w c : ℕ) (j : Row.Idx) :
    (sums f base A L w c j : EReal) = (f j : EReal) + ∑ t ∈ Finset.range c, ∑ p ∈ Finset.range 50176,
      if (j 0).val = labN L w p + (base + 20 * t) then (feaN A (32 * w + t) p : EReal) else 0 := by
  induction c with
  | zero => simp [sums]
  | succ c ih =>
    rw [Finset.sum_range_succ, ← add_assoc, ← ih]
    exact acc_val _ _ _ _ _

/-- Labels below twenty, number by number. -/
def LabSmall (L : Vec Ideal ⟨1, ![1605632]⟩ .i32) : Prop := ∀ w p, labN L w p < 20

/-- An array of labels below nineteen has them so at every number. -/
theorem labSmall_of_small (L : Vec Ideal S1605632 .i32) (h : Small (F := Ideal) L) : LabSmall L := fun w p =>
  lt_trans (show labN L w p < 19 from h _) (by norm_num)

/-- A cell in the channels' range gets its channel's pixels of its class. -/
theorem sums_in (f : Vec Ideal Row .f32) (base : ℕ) (A : Vec Ideal ⟨1, ![51380224]⟩ .f32) (L : Vec Ideal ⟨1, ![1605632]⟩ .i32) (w : ℕ)
    (hL : LabSmall L) (j : Row.Idx) (ch cls : ℕ) (hch : ch < 32) (hcls : cls < 20) (hj : (j 0).val = base + 20 * ch + cls) :
    (sums f base A L w 32 j : EReal) = (f j : EReal) + ∑ p ∈ Finset.range 50176,
      if labN L w p = cls then (feaN A (32 * w + ch) p : EReal) else 0 := by
  rw [sums_val, Finset.sum_eq_single ch]
  · refine congrArg ((f j : EReal) + ·) (Finset.sum_congr rfl fun p _ => if_congr ?_ rfl rfl)
    constructor <;> intro h <;> omega
  · intro t _ ht
    refine Finset.sum_eq_zero fun p _ => if_neg fun h => ht ?_
    have := hL w p
    omega
  · intro h
    exact absurd (Finset.mem_range.mpr hch) h

/-- A cell out of the channels' range gets nothing. -/
theorem sums_out (f : Vec Ideal Row .f32) (base : ℕ) (A : Vec Ideal ⟨1, ![51380224]⟩ .f32) (L : Vec Ideal ⟨1, ![1605632]⟩ .i32) (w : ℕ)
    (hL : LabSmall L) (j : Row.Idx) (hj : (j 0).val < base ∨ base + 640 ≤ (j 0).val) :
    (sums f base A L w 32 j : EReal) = (f j : EReal) := by
  rw [sums_val, Finset.sum_eq_zero, add_zero]
  intro t ht
  refine Finset.sum_eq_zero fun p _ => if_neg fun h => ?_
  have := hL w p
  have := Finset.mem_range.mp ht
  omega

/-- The starting cell is zero. -/
theorem zeroC_eq : ((zeroC : Ideal .f32) : EReal) = 0 := Ideal.ofBits_zero_f32
/-- A counted item is one. -/
theorem oneC_eq : ((oneC : Ideal .f32) : EReal) = 1 := Ideal.ofBits_one_f32

/-- Reading a row at a number below its length. -/
theorem flat_row (f : Vec Ideal Row .f32) (k : ℕ) (h : k < 1280) : flat f k = f (ix1 ⟨k, h⟩) := flat_val f (ix1 ⟨k, h⟩) k rfl

variable (B0 B1 : Vec Ideal S51380224 .f32) (A0 A1 : Vec Ideal S1605632 .i32)

/-- The class sum of image `b`'s plane `ch`, from the flat arrays. -/
def planeSum (A : Vec Ideal S51380224 .f32) (L : Vec Ideal S1605632 .i32) (cls b ch : ℕ) : EReal :=
  ∑ p ∈ Finset.range 50176, if labN (F := Ideal) L b p = cls then (feaN A (32 * b + ch) p : EReal) else 0

/-- The class count of image `b`, from the flat labels. -/
def imageCount (L : Vec Ideal S1605632 .i32) (cls b : ℕ) : EReal :=
  ∑ p ∈ Finset.range 50176, if labN (F := Ideal) L b p = cls then (1 : EReal) else 0

/-- A cell of the first half of the array of sums. -/
theorem sum_left (h0 : LabSmall A0) (h1 : LabSmall A1) (b : Fin 32) (k : Fin 1280) (ch cls : ℕ) (hch : ch < 32) (hcls : cls < 20)
    (hk : k.val = 20 * ch + cls) : (sumArr B0 B1 A0 A1 (ix2 b k) : EReal) = planeSum B0 A0 cls b.val ch := by
  show (flat (sumOut B0 B1 A0 A1 b.val) k.val : EReal) = _
  rw [flat_row _ _ k.isLt]
  unfold sumOut
  rw [sums_out _ _ _ _ _ h1 _ (Or.inl (show k.val < 640 by omega)),
    sums_in _ _ _ _ _ h0 _ ch cls hch hcls (show k.val = 0 + 20 * ch + cls by omega), zeroC_eq, zero_add]
  rfl

/-- A cell of the second half of the array of sums. -/
theorem sum_right (h1 : LabSmall A1) (h0 : LabSmall A0) (b : Fin 32) (k : Fin 1280) (ch cls : ℕ) (hch : ch < 32) (hcls : cls < 20)
    (hk : k.val = 640 + (20 * ch + cls)) : (sumArr B0 B1 A0 A1 (ix2 b k) : EReal) = planeSum B1 A1 cls b.val ch := by
  show (flat (sumOut B0 B1 A0 A1 b.val) k.val : EReal) = _
  rw [flat_row _ _ k.isLt]
  unfold sumOut
  rw [sums_in _ _ _ _ _ h1 _ ch cls hch hcls (show k.val = 640 + 20 * ch + cls by omega),
    sums_out _ _ _ _ _ h0 _ (Or.inr (show 0 + 640 ≤ k.val by omega)), zeroC_eq, zero_add]
  rfl

/-- Counting into twenty cells from `20 s`: the cell `20 ch + cls` gets the class's count if `ch` is `s`, else nothing. -/
theorem count_cell (f : Vec Ideal Row .f32) (L : Vec Ideal S1605632 .i32) (hL : LabSmall L) (w s ch cls : ℕ) (hcls : cls < 20)
    (j : Row.Idx) (hj : (j 0).val = 20 * ch + cls) :
    (acc f (fun p => labN (F := Ideal) L w p + 20 * s) (fun _ => oneC) 50176 j : EReal)
      = (f j : EReal) + if ch = s then imageCount L cls w else 0 := by
  rw [acc_val]
  refine congrArg ((f j : EReal) + ·) ?_
  by_cases h : ch = s
  · subst h
    rw [if_pos rfl]
    refine Finset.sum_congr rfl fun p _ => ?_
    rw [oneC_eq]
    refine if_congr ?_ rfl rfl
    constructor <;> intro h <;> omega
  · rw [if_neg h]
    refine Finset.sum_eq_zero fun p _ => if_neg fun e => h ?_
    have := hL w p
    omega

/-- A cell of the array of counts, at any of its 64 groups of twenty. -/
theorem count_any (h0 : LabSmall A0) (h1 : LabSmall A1) (b : Fin 32) (k : Fin 1280) (g cls : ℕ) (hcls : cls < 20)
    (hk : k.val = 20 * g + cls) : (cntArr A0 A1 (ix2 b k) : EReal)
      = (if g = b.val then imageCount A0 cls b.val else 0) + if g = 32 + b.val then imageCount A1 cls b.val else 0 := by
  show (flat (cntOut A0 A1 b.val 50176) k.val : EReal) = _
  rw [flat_row _ _ k.isLt]
  unfold cntOut cntHalf
  rw [count_cell _ _ h1 _ _ g cls hcls _ hk, count_cell _ _ h0 _ _ g cls hcls _ hk, zeroC_eq, zero_add]

/-- The images' counts in a cell of the first half, added: the count of the image numbered by the channel. -/
theorem count_left (h0 : LabSmall A0) (h1 : LabSmall A1) (k : Fin 1280) (ch : Fin 32) (cls : ℕ) (hcls : cls < 20)
    (hk : k.val = 20 * ch.val + cls) : ∑ b : Fin 32, (cntArr A0 A1 (ix2 b k) : EReal) = imageCount A0 cls ch.val := by
  rw [Finset.sum_eq_single ch]
  · rw [count_any _ _ h0 h1 _ _ ch.val cls hcls hk, if_pos rfl, if_neg (by omega), add_zero]
  · intro b _ hb
    have := Fin.val_ne_of_ne hb
    rw [count_any _ _ h0 h1 _ _ ch.val cls hcls hk, if_neg (by omega), if_neg (by omega), add_zero]
  · intro h
    exact absurd (Finset.mem_univ _) h

/-- The same in the second half. -/
theorem count_right (h0 : LabSmall A0) (h1 : LabSmall A1) (k : Fin 1280) (ch : Fin 32) (cls : ℕ) (hcls : cls < 20)
    (hk : k.val = 640 + (20 * ch.val + cls)) : ∑ b : Fin 32, (cntArr A0 A1 (ix2 b k) : EReal) = imageCount A1 cls ch.val := by
  have hk' : k.val = 20 * (32 + ch.val) + cls := by omega
  rw [Finset.sum_eq_single ch]
  · rw [count_any _ _ h0 h1 _ _ (32 + ch.val) cls hcls hk', if_neg (by omega), if_pos rfl, zero_add]
  · intro b _ hb
    have := Fin.val_ne_of_ne hb
    rw [count_any _ _ h0 h1 _ _ (32 + ch.val) cls hcls hk', if_neg (by omega), if_neg (by omega), add_zero]
  · intro h
    exact absurd (Finset.mem_univ _) h

/-- A sum over an image's pixels, row by row. -/
theorem sum_pixels (g : ℕ → EReal) : ∑ p ∈ Finset.range 50176, g p = ∑ y : Fin 224, ∑ x : Fin 224, g (224 * y.val + x.val) := by
  rw [Finset.sum_range]
  exact sum_runs 224 224 g

/-- The flattened labels at a pixel's number. -/
theorem labN_at (L : Vec Ideal S32x224x224 .i32) (b : Fin 32) (y x : Fin 224) :
    labN (F := Ideal) (shapeCast S1605632 L shapeCasts_S32x224x224_S1605632) b.val (224 * y.val + x.val) = BitVec.toNat (L (ix3 b y x) : BitVec 32) := by
  have hn : 50176 * b.val + (224 * y.val + x.val) < 1605632 := by omega
  refine (congrArg BitVec.toNat (flat_val _ (ix1 ⟨50176 * b.val + (224 * y.val + x.val), hn⟩) _ rfl)).trans ?_
  pointwise

/-- The flattened features at a pixel's number. -/
theorem feaN_at (X : Vec Ideal S32x32x224x224 .f32) (b h : Fin 32) (y x : Fin 224) :
    feaN (shapeCast S51380224 X shapeCasts_S32x32x224x224_S51380224) (32 * b.val + h.val) (224 * y.val + x.val) = X (ix4 b h y x) := by
  have hn : 50176 * (32 * b.val + h.val) + (224 * y.val + x.val) < 51380224 := by omega
  refine (flat_val _ (ix1 ⟨50176 * (32 * b.val + h.val) + (224 * y.val + x.val), hn⟩) _ rfl).trans ?_
  pointwise

end Cert.Proof.Totals

end
-- ==== Proof.Equal.lean ====
/-
  The kernel's loss is the problem's: cell by cell the kernel's centres are the problem's, and the cells of the twentieth, padding
  class add nothing.
-/
module

public import proofs.«01_k».proof.Proof.Centres
public import proofs.«01_k».proof.Proof.Payload
public import proofs.«01_k».proof.Proof.Totals

@[expose] public section

noncomputable section

namespace Cert.Proof.Equal

open Idealize.ShloMosaic Cert.KernelIdeal Cert.KernelIdeal.Gen Cert.Proof.Accum Cert.Proof.TileKernelIdeal
open Cert.Proof.Centres Cert.Proof.Payload Cert.Proof.Totals

/-- The small constant is a positive real. -/
theorem eps_real : eps = ((11258999 / 2 ^ 50 : ℝ) : EReal) := by
  unfold eps
  simp [Ideal.ofBits, Ideal.ieee, -EReal.coe_mul]; norm_num

/-- The other is thirty-two. -/
theorem thirtyTwo_real : thirtyTwo = ((32 : ℝ) : EReal) := by
  unfold thirtyTwo
  simp [Ideal.ofBits, Ideal.ieee, -EReal.coe_mul]; norm_num

/-- A sum of zeros and ones is a real that is not negative. -/
theorem count_real {ι : Type} (s : Finset ι) (p : ι → Prop) [DecidablePred p] :
    ∃ r : ℝ, 0 ≤ r ∧ (∑ i ∈ s, if p i then (1 : EReal) else 0) = (r : EReal) := by
  refine Finset.sum_induction _ (fun x : EReal => ∃ r : ℝ, 0 ≤ r ∧ x = (r : EReal)) ?_ ⟨0, le_refl _, rfl⟩ ?_
  · rintro _ _ ⟨a, ha, rfl⟩ ⟨b, hb, rfl⟩
    exact ⟨a + b, add_nonneg ha hb, rfl⟩
  · intro i _
    by_cases h : p i
    · exact ⟨1, zero_le_one, by rw [if_pos h]; rfl⟩
    · exact ⟨0, le_refl _, by rw [if_neg h]; rfl⟩

/-- So is a class's count. -/
theorem imageCount_real (L : Vec Ideal S1605632 .i32) (cls b : ℕ) : ∃ r : ℝ, 0 ≤ r ∧ imageCount L cls b = (r : EReal) := by
  unfold imageCount
  exact count_real _ _

/-- A factor that is a real and not negative comes out of a sum of extended reals. -/
theorem sum_scaled {ι : Type} (s : Finset ι) (f : ι → EReal) (r : ℝ) (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r)]

/-- Dividing a total by a positive real times thirty-two is dividing each part by the real and the total of these by thirty-two. -/
theorem mean_of_quotients (s : Fin 32 → EReal) (d : ℝ) (hd : 0 < d) :
    Ideal.div (∑ b, s b) ((d : EReal) * ((32 : ℝ) : EReal)) = Ideal.div (∑ b, Ideal.div (s b) (d : EReal)) ((32 : ℝ) : EReal) := by
  have h32 : (32 : ℝ) ≠ 0 := by norm_num
  simp only [← EReal.coe_mul, Ideal.div_coe hd.ne', Ideal.div_coe h32, Ideal.div_coe (mul_ne_zero hd.ne' h32)]
  rw [sum_scaled _ _ _ (by positivity), mul_assoc, ← EReal.coe_mul]
  congr 2
  field_simp

/-- A word is a class's label just when it reads as the class's number. -/
theorem label_iff (v : BitVec 32) (c : Fin 19) : v.toNat = c.val ↔ v = lab c := by
  have hc : c.val % 2 ^ 32 = c.val := Nat.mod_eq_of_lt (by omega)
  constructor
  · intro h
    apply BitVec.eq_of_toNat_eq
    rw [h, BitVec.toNat_ofNat, hc]
  · rintro rfl
    rw [BitVec.toNat_ofNat, hc]

/-- The flattened arguments. -/
abbrev flatX (X : Vec Ideal S32x32x224x224 .f32) : Vec Ideal S51380224 .f32 := shapeCast S51380224 X shapeCasts_S32x32x224x224_S51380224
abbrev flatL (L : Vec Ideal S32x224x224 .i32) : Vec Ideal S1605632 .i32 := shapeCast S1605632 L shapeCasts_S32x224x224_S1605632

/-- A class's count over the flat pixels is its count over the image. -/
theorem imageCount_eq (L : Vec Ideal S32x224x224 .i32) (c : Fin 19) (b : Fin 32) :
    imageCount (flatL L) c.val b.val = countOf L c b := by
  unfold imageCount countOf
  rw [sum_pixels]
  refine Finset.sum_congr rfl fun y _ => Finset.sum_congr rfl fun x _ => if_congr ?_ rfl rfl
  rw [labN_at]
  exact label_iff _ _

/-- A class's sum over the flat pixels is its sum over the image. -/
theorem planeSum_eq (X : Vec Ideal S32x32x224x224 .f32) (L : Vec Ideal S32x224x224 .i32) (c : Fin 19) (b h : Fin 32) :
    planeSum (flatX X) (flatL L) c.val b.val h.val = sumOf X L c b h := by
  unfold planeSum sumOf
  rw [sum_pixels]
  refine Finset.sum_congr rfl fun y _ => Finset.sum_congr rfl fun x _ => if_congr ?_ ?_ rfl
  · rw [labN_at]
    exact label_iff _ _
  · exact feaN_at _ _ _ _ _

/-- No label is nineteen, so the padding class's sum is nothing. -/
theorem planeSum_pad (X : Vec Ideal S51380224 .f32) (L : Vec Ideal S1605632 .i32) (hL : Small (F := Ideal) L) (b h : ℕ) :
    planeSum X L 19 b h = 0 := by
  refine Finset.sum_eq_zero fun p _ => if_neg fun e => ?_
  have : labN (F := Ideal) L b p < 19 := hL _
  omega

/-- A cell whose sums and counts are those of class `c`, channel `h`, holds the class's centre. -/
theorem cell_centre (S C : Vec Ideal S32x1280 .f32) (k : Fin 1280) (X : Vec Ideal S32x32x224x224 .f32) (L : Vec Ideal S32x224x224 .i32)
    (c : Fin 19) (h : Fin 32) (hS : ∀ b : Fin 32, (S (ix2 b k) : EReal) = planeSum (flatX X) (flatL L) c.val b.val h.val)
    (hC : ∑ b : Fin 32, (C (ix2 b k) : EReal) = imageCount (flatL L) c.val h.val) : cell S C k = centre X L c h := by
  obtain ⟨r, hr, hn⟩ := imageCount_real (flatL L) c.val h.val
  unfold cell centre
  have hT : ∑ b : Fin 32, (S (ix2 b k) : EReal) = ∑ b : Fin 32, sumOf X L c b h :=
    Finset.sum_congr rfl fun b _ => (hS b).trans (planeSum_eq X L c b h)
  rw [hC, ← imageCount_eq, hn, hT]
  show Ideal.div _ ((_ + eps) * thirtyTwo) = _
  rw [eps_real, thirtyTwo_real, ← EReal.coe_add]
  have hd : 0 < r + 11258999 / 2 ^ 50 := by positivity
  generalize r + 11258999 / 2 ^ 50 = d at hd ⊢
  exact mean_of_quotients (fun b => sumOf X L c b h) d hd

/-- A cell of the padding class holds nothing. -/
theorem cell_pad (S C : Vec Ideal S32x1280 .f32) (k : Fin 1280) (X : Vec Ideal S51380224 .f32) (L : Vec Ideal S1605632 .i32)
    (hL : Small (F := Ideal) L) (h : ℕ) (hS : ∀ b : Fin 32, (S (ix2 b k) : EReal) = planeSum X L 19 b.val h)
    (hC : ∑ b : Fin 32, (C (ix2 b k) : EReal) = imageCount L 19 h) : cell S C k = 0 := by
  obtain ⟨r, hr, hn⟩ := imageCount_real L 19 h
  unfold cell
  rw [hC, hn]
  simp only [hS, planeSum_pad _ _ hL, Finset.sum_const_zero]
  show Ideal.div _ ((_ + eps) * thirtyTwo) = _
  rw [eps_real, thirtyTwo_real, ← EReal.coe_add, ← EReal.coe_mul, Ideal.div_coe (by positivity), zero_mul]

/-- The kernel's loss of the flattened arguments is the problem's loss, when every label is below nineteen. -/
theorem loss_eq (X0 X1 : Vec Ideal S32x32x224x224 .f32) (L0 L1 : Vec Ideal S32x224x224 .i32)
    (h0 : Small (F := Ideal) (flatL L0)) (h1 : Small (F := Ideal) (flatL L1)) :
    k1_pay1 (F := Ideal) (sumArr (flatX X0) (flatX X1) (flatL L0) (flatL L1)) (cntArr (F := Ideal) (flatL L0) (flatL L1)) = loss X0 X1 L0 L1 := by
  have s0 := labSmall_of_small _ h0
  have s1 := labSmall_of_small _ h1
  rw [kernel_loss]
  unfold loss
  refine congrArg Ideal.sqrt ?_
  generalize hS : sumArr (flatX X0) (flatX X1) (flatL L0) (flatL L1) = S
  generalize hC : cntArr (F := Ideal) (flatL L0) (flatL L1) = C
  have runs := sum_runs 32 20 (fun n => if hn : n < 640 then
    (cell S C (left ⟨n, hn⟩) - cell S C (right ⟨n, hn⟩)) * (cell S C (left ⟨n, hn⟩) - cell S C (right ⟨n, hn⟩)) else 0)
  have lhs : ∑ k : Fin 640, (cell S C (left k) - cell S C (right k)) * (cell S C (left k) - cell S C (right k)) = _ :=
    (Finset.sum_congr rfl fun k _ => by rw [dif_pos k.isLt]).trans runs
  rw [lhs, Finset.sum_comm (γ := Fin 19)]
  refine Finset.sum_congr rfl fun h _ => ?_
  rw [Fin.sum_univ_castSucc]
  refine (congrArg₂ (· + ·) (Finset.sum_congr rfl fun c _ => ?_) ?_).trans (add_zero (∑ c : Fin 19,
    (centre X0 L0 c h - centre X1 L1 c h) * (centre X0 L0 c h - centre X1 L1 c h)))
  · have hn : 20 * h.val + c.castSucc.val < 640 := by simp only [Fin.val_castSucc]; omega
    have hc : c.val < 20 := by omega
    rw [dif_pos hn, cell_centre S C (left ⟨_, hn⟩) X0 L0 c h, cell_centre S C (right ⟨_, hn⟩) X1 L1 c h]
    · intro b; subst hS; exact sum_right _ _ _ _ s1 s0 b _ h.val c.val h.isLt hc rfl
    · subst hC; exact count_right _ _ s0 s1 _ h c.val hc rfl
    · intro b; subst hS; exact sum_left _ _ _ _ s0 s1 b _ h.val c.val h.isLt hc rfl
    · subst hC; exact count_left _ _ s0 s1 _ h c.val hc rfl
  · have hn : 20 * h.val + (Fin.last 19).val < 640 := by simp only [Fin.val_last]; omega
    rw [dif_pos hn, cell_pad S C (left ⟨_, hn⟩) (flatX X0) (flatL L0) h0 h.val, cell_pad S C (right ⟨_, hn⟩) (flatX X1) (flatL L1) h1 h.val]
    · simp
    · intro b; subst hS; exact sum_right _ _ _ _ s1 s0 b _ h.val 19 h.isLt (by norm_num) rfl
    · subst hC; exact count_right _ _ s0 s1 _ h 19 (by norm_num) rfl
    · intro b; subst hS; exact sum_left _ _ _ _ s0 s1 b _ h.val 19 h.isLt (by norm_num) rfl
    · subst hC; exact count_left _ _ s0 s1 _ h 19 (by norm_num) rfl

end Cert.Proof.Equal

end
-- ==== Proof.lean ====
/-
  The certificate of the SparseCore class-centre loss.

  The kernel's runs (at words and over the extended reals) are proved in Proof/MainKernel.lean and Proof/MainKernelIdeal.lean, and
  that its loss is the problem's in Proof/Equal.lean; here they are put together to the claims.
-/
module

public import proofs.«01_k».proof.Defs
public import proofs.«01_k».proof.Proof.Labels
public import proofs.«01_k».proof.Proof.MainKernel
public import proofs.«01_k».proof.Proof.MainKernelIdeal
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_labels_in_range

@[expose] public section

noncomputable section

namespace Cert.Proof

open Idealize.ShloMosaic Idealize.SL.Sem

/-- At words, the precondition leaves every label of the two flattened arrays below nineteen. -/
theorem labels_kernel (m : (ℓ : Loc Cert.Kernel.nD Cert.Kernel.τ Cert.Kernel.sig) → Buf (Elt Bits) ℓ)
    (h : Cert.Pre_Kernel (hPre_labels_in_range := Cert.Pre_labels_in_range.Gen.facts) m) : TileKernel.LabelsOK (F := Bits) m := fun d =>
  ⟨fun _ => (Labels.labels_small _ _ _ _ (h d)).1 _, fun _ => (Labels.labels_small _ _ _ _ (h d)).2 _⟩

/-- Over the extended reals, the precondition leaves every label of the two flattened arrays below nineteen. -/
theorem labels_ideal (m : (ℓ : Loc Cert.KernelIdeal.nD Cert.KernelIdeal.τ Cert.KernelIdeal.sig) → Buf (Elt Ideal) ℓ)
    (h : Cert.Pre_KernelIdeal (hPre_labels_in_range := Cert.Pre_labels_in_range.Gen.facts) m) : TileKernelIdeal.LabelsOK (F := Ideal) m := fun d =>
  ⟨fun _ => (Labels.labels_small _ _ _ _ (h d)).1 _, fun _ => (Labels.labels_small _ _ _ _ (h d)).2 _⟩

/-- The kernel at words runs to its end, faults nowhere, and leaves its arguments as they were and every counter at zero. -/
theorem frame_kernel : Cert.quiescent_Kernel (hKernel := Cert.Kernel.Gen.facts) (hPre_labels_in_range := Cert.Pre_labels_in_range.Gen.facts) :=
  fun m ρ hpre => (θ_run Cert.Kernel.defs _ _).mono (fun _ h => ⟨fun c => (h.1 c).2, h.2⟩)
    (TileKernel.run_main (F := Bits) m ρ (labels_kernel m hpre))

/-- The same over the extended reals. -/
theorem frame_ideal : Cert.quiescent_KernelIdeal (hKernelIdeal := Cert.KernelIdeal.Gen.facts) (hPre_labels_in_range := Cert.Pre_labels_in_range.Gen.facts) :=
  fun m ρ hpre => (θ_run Cert.KernelIdeal.defs _ _).mono (fun _ h => ⟨fun c => (h.1 c).2, h.2⟩)
    (TileKernelIdeal.run_main (F := Ideal) m ρ (labels_ideal m hpre))

/-- The reference runs to its end and leaves its arguments as they were; it has no counters. -/
theorem frame_reference : Cert.quiescent_ReferenceIdeal (hReferenceIdeal := Cert.ReferenceIdeal.Gen.facts) :=
  fun m ρ _ => (θ_run Cert.ReferenceIdeal.defs _ _).mono (fun r h => ⟨fun c => (h c).2, sem_eq_zero_of_no_sems (by decide) r.2⟩)
    (Cert.ReferenceIdeal.Value.run (F := Ideal) m ρ)

/-- The reference's frame under the precondition, which it does not need. -/
theorem frame_reference_pre : Cert.quiescent_ReferenceIdeal_pre_labels_in_range (hReferenceIdeal := Cert.ReferenceIdeal.Gen.facts)
    (hPre_labels_in_range := Cert.Pre_labels_in_range.Gen.facts) :=
  fun m ρ _ => frame_reference m ρ trivial

/-- The kernel's loss of a memory's arguments is the problem's. -/
theorem kernel_value (m : (ℓ : Loc Cert.KernelIdeal.nD Cert.KernelIdeal.τ Cert.KernelIdeal.sig) → Buf (Elt Ideal) ℓ)
    (h : TileKernelIdeal.LabelsOK (F := Ideal) m) (c : Dev Cert.KernelIdeal.nD) :
    TileKernelIdeal.outV (F := Ideal) m c = fun _ => Centres.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) :=
  funext fun _ => Equal.loss_eq _ _ _ _ (h c).1 (h c).2

/-- Over the extended reals the kernel and the reference, of the same arguments, end with the same loss. -/
theorem equal_losses : Cert.algebraic_KernelIdeal_ReferenceIdeal (hKernelIdeal := Cert.KernelIdeal.Gen.facts)
    (hReferenceIdeal := Cert.ReferenceIdeal.Gen.facts) (hPre_labels_in_range := Cert.Pre_labels_in_range.Gen.facts) := by
  intro m ρ m' ρ' hpre hargs
  refine ⟨fun c => TileKernelIdeal.outV (F := Ideal) m c,
    (θ_run Cert.KernelIdeal.defs _ _).mono (fun _ h c => h.1 c) (TileKernelIdeal.run_main (F := Ideal) m ρ (labels_ideal m hpre)),
    (θ_run Cert.ReferenceIdeal.defs _ _).mono (fun _ h c => ⟨(h c).1.trans ?_, (h c).2⟩) (Cert.ReferenceIdeal.Value.run (F := Ideal) m' ρ')⟩
  obtain ⟨e0, e1, e2, e3⟩ := hargs c
  rw [Centres.reference_loss, e0, e1, e2, e3]
  exact (kernel_value m (labels_ideal m hpre) c).symm

theorem claim : Cert.Claim :=
  ⟨Cert.Kernel.Gen.facts, Cert.KernelIdeal.Gen.facts, Cert.ReferenceIdeal.Gen.facts, Cert.Pre_labels_in_range.Gen.facts,
    frame_kernel, frame_ideal, frame_reference, frame_reference_pre, trivial, equal_losses⟩

end Cert.Proof

end
